-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x3584 : Shape := ⟨3, ![4, 384, 3584]⟩
abbrev S3584x3584 : Shape := ⟨2, ![3584, 3584]⟩
abbrev S3584 : Shape := ⟨1, ![3584]⟩
abbrev S1536x3584 : Shape := ⟨2, ![1536, 3584]⟩
abbrev S1x3584 : Shape := ⟨2, ![1, 3584]⟩
abbrev S1536x1 : Shape := ⟨2, ![1536, 1]⟩
abbrev S1536x1792 : Shape := ⟨2, ![1536, 1792]⟩
abbrev S256x3584 : Shape := ⟨2, ![256, 3584]⟩
abbrev S256x1 : Shape := ⟨2, ![256, 1]⟩
abbrev S256x1792 : Shape := ⟨2, ![256, 1792]⟩
abbrev S256 : Shape := ⟨1, ![256]⟩
abbrev S3584x256 : Shape := ⟨2, ![3584, 256]⟩
abbrev S256x256 : Shape := ⟨2, ![256, 256]⟩
abbrev S1x256 : Shape := ⟨2, ![1, 256]⟩

abbrev nBuf : Space → Nat
  | .hbm => 9
  | .vmem => 13
  | .smem => 0
  | _ => 0

abbrev bufTy : (tb : Table) → Fin (tcTables nBuf tb) → BufTy
  | .hbm, ⟨0, _⟩ => ⟨S4x384x3584, .bf16⟩
  | .hbm, ⟨1, _⟩ => ⟨S3584x3584, .fp8e4m3⟩
  | .hbm, ⟨2, _⟩ => ⟨S3584, .f32⟩
  | .hbm, ⟨3, _⟩ => ⟨S1536x3584, .bf16⟩
  | .hbm, ⟨4, _⟩ => ⟨S1x3584, .f32⟩
  | .hbm, ⟨5, _⟩ => ⟨S1536x1, .f32⟩
  | .hbm, ⟨6, _⟩ => ⟨S1536x1792, .fp8e4m3⟩
  | .hbm, ⟨7, _⟩ => ⟨S1536x3584, .fp8e4m3⟩
  | .hbm, ⟨8, _⟩ => ⟨S1536x1, .f32⟩
  | .local _ .vmem, ⟨0, _⟩ => ⟨S256x3584, .bf16⟩
  | .local _ .vmem, ⟨1, _⟩ => ⟨S256x3584, .bf16⟩
  | .local _ .vmem, ⟨2, _⟩ => ⟨S3584x3584, .fp8e4m3⟩
  | .local _ .vmem, ⟨3, _⟩ => ⟨S1x3584, .f32⟩
  | .local _ .vmem, ⟨4, _⟩ => ⟨S256x1, .f32⟩
  | .local _ .vmem, ⟨5, _⟩ => ⟨S256x1, .f32⟩
  | .local _ .vmem, ⟨6, _⟩ => ⟨S256x1792, .fp8e4m3⟩
  | .local _ .vmem, ⟨7, _⟩ => ⟨S256x1792, .fp8e4m3⟩
  | .local _ .vmem, ⟨8, _⟩ => ⟨S256x3584, .fp8e4m3⟩
  | .local _ .vmem, ⟨9, _⟩ => ⟨S256x3584, .fp8e4m3⟩
  | .local _ .vmem, ⟨10, _⟩ => ⟨S256x1, .f32⟩
  | .local _ .vmem, ⟨11, _⟩ => ⟨S256x1, .f32⟩
  | .local _ .vmem, ⟨12, _⟩ => ⟨S256x1792, .f32⟩
  | _, _ => ⟨S4x384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3584 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x384x3584 : Shape := ⟨3, ![4, 384, 3584]⟩
abbrev S3584x3584 : Shape := ⟨2, ![3584, 3584]⟩
abbrev S3584 : Shape := ⟨1, ![3584]⟩
abbrev S1536x3584 : Shape := ⟨2, ![1536, 3584]⟩
abbrev S1x3584 : Shape := ⟨2, ![1, 3584]⟩
abbrev S1536x1 : Shape := ⟨2, ![1536, 1]⟩
abbrev S1536x1792 : Shape := ⟨2, ![1536, 1792]⟩
abbrev S1536 : Shape := ⟨1, ![1536]⟩

abbrev nBuf : Space → Nat
  | .hbm => 9
  | .vmem => 7
  | .smem => 0
  | _ => 0

abbrev bufTy : (tb : Table) → Fin (tcTables nBuf tb) → BufTy
  | .hbm, ⟨0, _⟩ => ⟨S4x384x3584, .bf16⟩
  | .hbm, ⟨1, _⟩ => ⟨S3584x3584, .fp8e4m3⟩
  | .hbm, ⟨2, _⟩ => ⟨S3584, .f32⟩
  | .hbm, ⟨3, _⟩ => ⟨S1536x3584, .bf16⟩
  | .hbm, ⟨4, _⟩ => ⟨S1x3584, .f32⟩
  | .hbm, ⟨5, _⟩ => ⟨S1536x1, .f32⟩
  | .hbm, ⟨6, _⟩ => ⟨S1536x1792, .fp8e4m3⟩
  | .hbm, ⟨7, _⟩ => ⟨S1536x3584, .fp8e4m3⟩
  | .hbm, ⟨8, _⟩ => ⟨S1536x1, .f32⟩
  | .local _ .vmem, ⟨0, _⟩ => ⟨S1536x3584, .bf16⟩
  | .local _ .vmem, ⟨1, _⟩ => ⟨S3584x3584, .fp8e4m3⟩
  | .local _ .vmem, ⟨2, _⟩ => ⟨S1x3584, .f32⟩
  | .local _ .vmem, ⟨3, _⟩ => ⟨S1536x1, .f32⟩
  | .local _ .vmem, ⟨4, _⟩ => ⟨S1536x1792, .fp8e4m3⟩
  | .local _ .vmem, ⟨5, _⟩ => ⟨S1536x3584, .fp8e4m3⟩
  | .local _ .vmem, ⟨6, _⟩ => ⟨S1536x1, .f32⟩
  | _, _ => ⟨S4x384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  The quantiser's power of two, at exact arithmetic. The kernel finds the binary exponent of `t` by a binary search
  over the 256 exponent fields of a 32-bit float (`step`, `search`); the reference takes `⌊log t / log 2⌋ + 1`. This
  module states both as functions of one extended real (`kScale`, `kInv`; `rScale`, `rInv`) and proves that on a
  maximum of magnitudes, which is never negative, they are the same (`kScale_eq`, `kInv_eq`).
-/
module

public import Idealize.ShloMosaic.PureOps.Ideal.Laws
public import Mathlib.Analysis.SpecialFunctions.Log.Basic
public import Mathlib.Analysis.SpecialFunctions.Pow.Real
public import Mathlib.Data.EReal.Operations
public import Mathlib.Tactic.Ring
public import Mathlib.Tactic.Linarith
public import Mathlib.Tactic.NormNum
public import Mathlib.Tactic.Positivity
public import Mathlib.Tactic.FieldSimp
public import Mathlib.Tactic.IntervalCases

@[expose] public section

noncomputable section

namespace Cert.Scale

open Idealize.ShloMosaic

/-! ## The kernel's functions -/

/-- One step of the binary search: add the bit `b` to the field `f` where the power of two whose exponent field is
    `f + b` is at most `t`. -/
def step (t : EReal) (b f : BitVec 32) : BitVec 32 :=
  Scalar.select (FloatOps.cmpf (F := Ideal) (φ := .f32) .oge t
    (FloatOps.ofBits (F := Ideal) .f32 (IntOp.shli .vector (IntOp.addi f b) 23#32))) (IntOp.addi f b) f

/-- The whole search: the eight bits of the exponent field, highest first. -/
def search (t : EReal) : BitVec 32 :=
  step t 1#32 (step t 2#32 (step t 4#32 (step t 8#32 (step t 16#32 (step t 32#32 (step t 64#32 (step t 128#32 0#32)))))))

/-- The constant both programs multiply the maximum by: the 32-bit float nearest `1 / 448`. -/
def c448 : EReal := FloatOps.ofBits (F := Ideal) .f32 0x3B124925#32

/-- The kernel's scaled maximum. -/
def kT (a : EReal) : EReal := FloatOps.absf (F := Ideal) (φ := .f32) (FloatOps.mulf (F := Ideal) (φ := .f32) a c448)

/-- The kernel's exponent of the scale, from the row's maximum. -/
def kExp (a : EReal) : BitVec 32 :=
  Scalar.select (FloatOps.cmpf (F := Ideal) (φ := .f32) .oeq a (FloatOps.ofBits (F := Ideal) .f32 0x00000000#32)) 0#32
    (Scalar.select (IntOp.ori (IntOp.cmpi .eq (search (kT a)) 0#32) (IntOp.cmpi .eq (search (kT a)) 255#32)) 0#32
      (IntOp.subi (search (kT a)) 126#32))

/-- The kernel's `2 ^ e` for a 32-bit integer `e`: the exponent field put in place. -/
def kPow (e : BitVec 32) : EReal :=
  FloatOps.ofBits (F := Ideal) .f32
    (IntOp.shli .vector (IntOp.addi (IntOp.minsi 128#32 (IntOp.maxsi 4294967169#32 e)) 127#32) 23#32)

/-- The kernel's scale. -/
def kScale (a : EReal) : EReal := kPow (kExp a)
/-- The kernel's inverse scale. -/
def kInv (a : EReal) : EReal := kPow (IntOp.subi 0#32 (kExp a))

/-! ## The reference's functions -/

/-- The reference's scaled maximum. -/
def rT (a : EReal) : EReal := FloatOps.mulf (F := Ideal) (φ := .f32) a c448

/-- The reference's exponent of the scale. -/
def rExp (a : EReal) : EReal :=
  Scalar.select (FloatOps.cmpf (F := Ideal) (φ := .f32) .oeq a (FloatOps.ofBits (F := Ideal) .f32 0x00000000#32))
    (FloatOps.ofBits (F := Ideal) .f32 0x00000000#32)
    (Scalar.select (IntOp.ori
        (FloatOps.cmpf (F := Ideal) (φ := .f32) .olt (rT a) (FloatOps.ofBits (F := Ideal) .f32 0x00800000#32))
        (FloatOps.cmpf (F := Ideal) (φ := .f32) .oeq (rT a) (FloatOps.ofBits (F := Ideal) .f32 0x7F800000#32)))
      (FloatOps.ofBits (F := Ideal) .f32 0x00000000#32)
      (FloatOps.minimumf (F := Ideal) (φ := .f32)
        (FloatOps.addf (F := Ideal) (φ := .f32)
          (FloatOps.floor (F := Ideal) (φ := .f32)
            (FloatOps.divf (F := Ideal) (φ := .f32) (FloatOps.log (F := Ideal) (φ := .f32) (rT a))
              (FloatOps.log (F := Ideal) (φ := .f32) (FloatOps.ofBits (F := Ideal) .f32 0x40000000#32))))
          (FloatOps.ofBits (F := Ideal) .f32 0x3F800000#32))
        (FloatOps.ofBits (F := Ideal) .f32 0x43000000#32)))

/-- The reference's scale. -/
def rScale (a : EReal) : EReal :=
  Scalar.select (FloatOps.cmpf (F := Ideal) (φ := .f32) .ogt (rExp a) (FloatOps.ofBits (F := Ideal) .f32 0x42FE0000#32))
    (FloatOps.ofBits (F := Ideal) .f32 0x7F800000#32) (FloatOps.exp2 (F := Ideal) (φ := .f32) (rExp a))
/-- The reference's inverse scale. -/
def rInv (a : EReal) : EReal :=
  Scalar.select (FloatOps.cmpf (F := Ideal) (φ := .f32) .ogt (rExp a) (FloatOps.ofBits (F := Ideal) .f32 0x42FC0000#32))
    (FloatOps.ofBits (F := Ideal) .f32 0x00000000#32)
    (FloatOps.exp2 (F := Ideal) (φ := .f32)
      (FloatOps.subf (F := Ideal) (φ := .f32) (FloatOps.ofBits (F := Ideal) .f32 0x00000000#32) (rExp a)))

/-! ## The constants -/

/-- The extended real whose 32-bit pattern has exponent field `c` and nothing else. -/
def thr (c : ℕ) : EReal := Ideal.ofBits .f32 (BitVec.ofNat 32 c <<< 23)

/-- Field, fraction and sign of such a pattern. -/
theorem fields : ∀ c : Fin 256, ((BitVec.ofNat 32 c.val <<< 23).extractLsb' 31 1 == 1#1) = false
    ∧ ((BitVec.ofNat 32 c.val <<< 23).extractLsb' 23 8).toNat = c.val
    ∧ ((BitVec.ofNat 32 c.val <<< 23).extractLsb' 0 23).toNat = 0 := by decide +kernel

/-- The threshold of exponent field 0 is 0. -/
theorem thr_zero : thr 0 = 0 := by
  obtain ⟨h1, h2, h3⟩ := fields 0
  simp only [Fin.val_zero] at h1 h2 h3
  unfold thr Ideal.ofBits Ideal.ieee
  simp [h1, h2, h3]

/-- The threshold of exponent field 255 is the infinity. -/
theorem thr_top : thr 255 = ⊤ := by
  obtain ⟨h1, h2, h3⟩ := fields 255
  have e : ((255 : Fin 256) : ℕ) = 255 := rfl
  rw [e] at h1 h2 h3
  unfold thr Ideal.ofBits Ideal.ieee
  simp [h1, h2, h3]

/-- A normal positive 32-bit pattern, from its fields. -/
theorem ofBits_normal (w : BitVec 32) (ex fr : ℕ) (hs : (w.extractLsb' 31 1 == 1#1) = false)
    (hex : (w.extractLsb' 23 8).toNat = ex) (hfr : (w.extractLsb' 0 23).toNat = fr) (h0 : ex ≠ 0) (h1 : ex ≠ 255) :
    Ideal.ofBits .f32 w = ((((8388608 + fr : ℕ) : ℝ) * (2 : ℝ) ^ ((ex : ℤ) - 150) : ℝ) : EReal) := by
  show Ideal.ieee 8 23 w = _
  unfold Ideal.ieee
  dsimp only
  rw [show 8 + 23 = 31 from rfl, hs, hex, hfr, if_neg (by omega), if_neg h0]
  have e : ((ex : ℤ) - (2 ^ (8 - 1) - 1) - ((23 : ℕ) : ℤ)) = (ex : ℤ) - 150 := by norm_num; ring
  rw [e]
  norm_num

/-- In between the pattern is a power of two. -/
theorem thr_mid {c : ℕ} (h0 : 1 ≤ c) (h1 : c ≤ 254) : thr c = (((2 : ℝ) ^ ((c : ℤ) - 127) : ℝ) : EReal) := by
  obtain ⟨f1, f2, f3⟩ := fields ⟨c, by omega⟩
  dsimp only at f1 f2 f3
  unfold thr
  rw [ofBits_normal _ c 0 f1 f2 f3 (by omega) (by omega), EReal.coe_eq_coe_iff,
    show (c : ℤ) - 127 = ((c : ℤ) - 150) + 23 by ring, zpow_add₀ (by norm_num)]
  norm_num
  ring

/-- The constant 0. -/
theorem c_zero : FloatOps.ofBits (F := Ideal) .f32 0x00000000#32 = (0 : EReal) := thr_zero
/-- The constant infinity. -/
theorem c_top : FloatOps.ofBits (F := Ideal) .f32 0x7F800000#32 = (⊤ : EReal) := thr_top
/-- The least normal 32-bit float is the threshold of field 1. -/
theorem c_min : FloatOps.ofBits (F := Ideal) .f32 0x00800000#32 = thr 1 := rfl
/-- The constant 1. -/
theorem c_one : FloatOps.ofBits (F := Ideal) .f32 0x3F800000#32 = ((1 : ℝ) : EReal) := by
  refine (thr_mid (c := 127) (by norm_num) (by norm_num)).trans ?_
  norm_num
/-- The constant 2. -/
theorem c_two : FloatOps.ofBits (F := Ideal) .f32 0x40000000#32 = ((2 : ℝ) : EReal) := by
  refine (thr_mid (c := 128) (by norm_num) (by norm_num)).trans ?_
  norm_num
/-- The constant 128. -/
theorem c_128 : FloatOps.ofBits (F := Ideal) .f32 0x43000000#32 = ((128 : ℝ) : EReal) := by
  refine (thr_mid (c := 134) (by norm_num) (by norm_num)).trans ?_
  norm_num
/-- The constant 127. -/
theorem c_127 : FloatOps.ofBits (F := Ideal) .f32 0x42FE0000#32 = ((127 : ℝ) : EReal) := by
  refine (ofBits_normal 0x42FE0000#32 133 0x7E0000 (by decide) (by decide) (by decide) (by decide) (by decide)).trans ?_
  rw [EReal.coe_eq_coe_iff]
  norm_num
/-- The constant 126. -/
theorem c_126 : FloatOps.ofBits (F := Ideal) .f32 0x42FC0000#32 = ((126 : ℝ) : EReal) := by
  refine (ofBits_normal 0x42FC0000#32 133 0x7C0000 (by decide) (by decide) (by decide) (by decide) (by decide)).trans ?_
  rw [EReal.coe_eq_coe_iff]
  norm_num
/-- The factor 1/448 is not negative. -/
theorem c448_nonneg : 0 ≤ c448 := by
  have := ofBits_normal 0x3B124925#32 118 0x124925 (by decide) (by decide) (by decide) (by decide) (by decide)
  unfold c448
  show 0 ≤ Ideal.ofBits .f32 0x3B124925#32
  rw [this, EReal.coe_nonneg]
  positivity

/-! ## The search finds the binade -/

/-- One step on numbers: the bit is added exactly where the threshold is at most `t`. -/
theorem step_nat (t : EReal) (b f : ℕ) :
    step t (BitVec.ofNat 32 b) (BitVec.ofNat 32 f) = BitVec.ofNat 32 (if thr (f + b) ≤ t then f + b else f) := by
  unfold step
  have e : IntOp.addi (BitVec.ofNat 32 f) (BitVec.ofNat 32 b) = BitVec.ofNat 32 (f + b) := by
    unfold IntOp.addi; rw [BitVec.ofNat_add]
  rw [e]
  have e2 : FloatOps.ofBits (F := Ideal) .f32 (IntOp.shli .vector (BitVec.ofNat 32 (f + b)) 23#32) = thr (f + b) := by
    unfold IntOp.shli; rfl
  rw [e2, Ideal.cmpf_def]
  unfold Ideal.cmp Scalar.select
  by_cases h : thr (f + b) ≤ t <;> simp [h]

/-- What a step keeps: the field's threshold is at most `t`, and the field `n` further on is past it. -/
def Inv (t : EReal) (f n : ℕ) : Prop := thr f ≤ t ∧ (f + n = 256 ∨ t < thr (f + n)) ∧ f + n ≤ 256

/-- One step halves the range. -/
theorem step_inv {t : EReal} {f : ℕ} (b : ℕ) (h : Inv t f (2 * b)) :
    ∃ f', step t (BitVec.ofNat 32 b) (BitVec.ofNat 32 f) = BitVec.ofNat 32 f' ∧ Inv t f' b := by
  obtain ⟨h1, h2, h3⟩ := h
  rw [step_nat]
  by_cases hc : thr (f + b) ≤ t
  · refine ⟨f + b, by rw [if_pos hc], hc, ?_, by omega⟩
    rw [show f + b + b = f + 2 * b by ring]; exact h2
  · refine ⟨f, by rw [if_neg hc], h1, Or.inr (not_le.mp hc), by omega⟩

/-- The whole search: the field it finds is that of the greatest power of two at most `t`. -/
theorem search_spec {t : EReal} (ht : 0 ≤ t) :
    ∃ f, search t = BitVec.ofNat 32 f ∧ thr f ≤ t ∧ (f = 255 ∨ t < thr (f + 1)) ∧ f ≤ 255 := by
  have h0 : Inv t 0 (2 * 128) := ⟨by rw [thr_zero]; exact ht, Or.inl rfl, le_refl _⟩
  obtain ⟨f1, e1, i1⟩ := step_inv 128 h0
  obtain ⟨f2, e2, i2⟩ := step_inv 64 i1
  obtain ⟨f3, e3, i3⟩ := step_inv 32 i2
  obtain ⟨f4, e4, i4⟩ := step_inv 16 i3
  obtain ⟨f5, e5, i5⟩ := step_inv 8 i4
  obtain ⟨f6, e6, i6⟩ := step_inv 4 i5
  obtain ⟨f7, e7, i7⟩ := step_inv 2 i6
  obtain ⟨f8, e8, i8⟩ := step_inv 1 i7
  refine ⟨f8, ?_, i8.1, ?_, ?_⟩
  · unfold search
    rw [e1, e2, e3, e4, e5, e6, e7, e8]
  · rcases i8.2.1 with h | h
    · exact Or.inl (by omega)
    · exact Or.inr h
  · have := i8.2.2; omega

/-! ## The two exponents are one integer -/

/-- `⌊log r / log 2⌋` of a real between two consecutive powers of two. -/
theorem floor_log {r : ℝ} {n : ℤ} (h1 : (2 : ℝ) ^ n ≤ r) (h2 : r < (2 : ℝ) ^ (n + 1)) :
    ⌊Real.log r * (Real.log 2)⁻¹⌋ = n := by
  have hl : 0 < Real.log 2 := Real.log_pos (by norm_num)
  have hr : 0 < r := lt_of_lt_of_le (zpow_pos (by norm_num) _) h1
  rw [← div_eq_mul_inv, Int.floor_eq_iff]
  constructor
  · rw [le_div_iff₀ hl, ← Real.log_zpow]
    exact Real.log_le_log (zpow_pos (by norm_num) _) h1
  · rw [div_lt_iff₀ hl]
    have := Real.log_lt_log hr h2
    rw [Real.log_zpow] at this
    push_cast at this
    exact this

/-- … and at least `n` from the lower bound alone. -/
theorem le_floor_log {r : ℝ} {n : ℤ} (h1 : (2 : ℝ) ^ n ≤ r) : n ≤ ⌊Real.log r * (Real.log 2)⁻¹⌋ := by
  have hl : 0 < Real.log 2 := Real.log_pos (by norm_num)
  rw [← div_eq_mul_inv, Int.le_floor, le_div_iff₀ hl, ← Real.log_zpow]
  exact Real.log_le_log (zpow_pos (by norm_num) _) h1

/-- The reference's unclamped exponent of a positive real. -/
theorem r_floor {r : ℝ} (hr : 0 < r) :
    FloatOps.addf (F := Ideal) (φ := .f32)
          (FloatOps.floor (F := Ideal) (φ := .f32)
            (FloatOps.divf (F := Ideal) (φ := .f32) (FloatOps.log (F := Ideal) (φ := .f32) (r : EReal))
              (FloatOps.log (F := Ideal) (φ := .f32) (FloatOps.ofBits (F := Ideal) .f32 0x40000000#32))))
          (FloatOps.ofBits (F := Ideal) .f32 0x3F800000#32)
      = (((⌊Real.log r * (Real.log 2)⁻¹⌋ + 1 : ℤ) : ℝ) : EReal) := by
  rw [c_two, c_one]
  have hl : Real.log 2 ≠ 0 := (Real.log_pos (by norm_num)).ne'
  show Ideal.liftRound Int.floor (Ideal.div (Ideal.log (r : EReal)) (Ideal.log ((2 : ℝ) : EReal))) + ((1 : ℝ) : EReal) = _
  rw [Ideal.log_coe, Ideal.log_coe, if_neg (not_le.mpr hr), if_neg (by norm_num)]
  unfold Ideal.div
  rw [if_neg (by rw [← EReal.coe_zero, EReal.coe_eq_coe_iff]; exact hl), ← EReal.coe_inv, ← EReal.coe_mul]
  show (((⌊Real.log r * (Real.log 2)⁻¹⌋ : ℤ) : ℝ) : EReal) + _ = _
  rw [← EReal.coe_add]
  push_cast
  rfl

/-- On a maximum that is not negative both programs take the same integer exponent. -/
theorem exp_eq {a : EReal} (ha : 0 ≤ a) :
    ∃ E : ℤ, -125 ≤ E ∧ E ≤ 128 ∧ kExp a = BitVec.ofInt 32 E ∧ rExp a = ((E : ℝ) : EReal) := by
  unfold kExp rExp
  by_cases h0 : a = 0
  · subst h0
    refine ⟨0, by norm_num, by norm_num, ?_, ?_⟩
    · rw [c_zero, Ideal.cmpf_def]; simp [Ideal.cmp, Scalar.select]
    · rw [c_zero, Ideal.cmpf_def]; simp [Ideal.cmp, Scalar.select]
  have hne : FloatOps.cmpf (F := Ideal) (φ := .f32) .oeq a (FloatOps.ofBits (F := Ideal) .f32 0x00000000#32) = 0 := by
    rw [c_zero, Ideal.cmpf_def]; simp [Ideal.cmp, h0]
  rw [hne]
  have hT : kT a = rT a := by
    have : 0 ≤ rT a := mul_nonneg ha c448_nonneg
    show max (rT a) (-(rT a)) = rT a
    refine max_eq_left (le_trans ?_ this)
    rw [EReal.neg_le, neg_zero]; exact this
  have ht : 0 ≤ rT a := mul_nonneg ha c448_nonneg
  rw [hT]
  generalize rT a = t at ht ⊢
  obtain ⟨f, hf, hlo, hhi, hle⟩ := search_spec ht
  rw [hf, c_min, c_top, Ideal.cmpf_def, Ideal.cmpf_def]
  unfold Scalar.select
  simp only [if_neg (show ¬ ((0 : BitVec 1) = 1) by decide)]
  by_cases f0 : f = 0
  · subst f0
    have hlt : t < thr 1 := by rcases hhi with h | h; · omega
                               exact h
    refine ⟨0, by norm_num, by norm_num, by decide, ?_⟩
    have : IntOp.ori (Ideal.cmp .olt t (thr 1)) (Ideal.cmp .oeq t ⊤) = 1 := by
      simp only [Ideal.cmp, hlt, decide_true, IntOp.ori]
      generalize BitVec.ofBool (decide (t = ⊤)) = b
      revert b; decide
    rw [if_pos this, c_zero]; simp
  by_cases f255 : f = 255
  · subst f255
    have htop : t = ⊤ := by rw [thr_top] at hlo; exact top_le_iff.mp hlo
    refine ⟨0, by norm_num, by norm_num, by decide, ?_⟩
    have : IntOp.ori (Ideal.cmp .olt t (thr 1)) (Ideal.cmp .oeq t ⊤) = 1 := by
      simp only [Ideal.cmp, htop, decide_true, IntOp.ori]
      generalize BitVec.ofBool (decide ((⊤ : EReal) < thr 1)) = b
      revert b; decide
    rw [if_pos this, c_zero]; simp
  -- a proper binade
  have hlo' := hlo
  rw [thr_mid (by omega) (by omega)] at hlo'
  have htop : t ≠ ⊤ := by
    rintro rfl
    rcases hhi with h | h
    · exact f255 h
    · exact not_top_lt h
  have hbot : t ≠ ⊥ := by rintro rfl; simp at ht
  lift t to ℝ using ⟨htop, hbot⟩
  rw [EReal.coe_le_coe_iff] at hlo'
  have hpos : 0 < t := lt_of_lt_of_le (zpow_pos (by norm_num) _) hlo'
  have hnmin : ¬ ((t : EReal) < thr 1) := by
    rw [thr_mid (by norm_num) (by norm_num), EReal.coe_lt_coe_iff, not_lt]
    exact le_trans (zpow_le_zpow_right₀ (by norm_num) (by push_cast; omega)) hlo'
  have hori : IntOp.ori (Ideal.cmp .olt (t : EReal) (thr 1)) (Ideal.cmp .oeq (t : EReal) ⊤) ≠ 1 := by
    simp [Ideal.cmp, hnmin, IntOp.ori]
  have hk : IntOp.ori (IntOp.cmpi .eq (BitVec.ofNat 32 f) 0#32) (IntOp.cmpi .eq (BitVec.ofNat 32 f) 255#32) ≠ 1 := by
    have : ∀ g : Fin 256, g.val ≠ 0 → g.val ≠ 255 →
      IntOp.ori (IntOp.cmpi .eq (BitVec.ofNat 32 g.val) 0#32) (IntOp.cmpi .eq (BitVec.ofNat 32 g.val) 255#32) ≠ 1 := by
      decide +kernel
    exact this ⟨f, by omega⟩ f0 f255
  have hk2 : IntOp.subi (BitVec.ofNat 32 f) 126#32 = BitVec.ofInt 32 ((f : ℤ) - 126) := by
    have : ∀ g : Fin 256, IntOp.subi (BitVec.ofNat 32 g.val) 126#32 = BitVec.ofInt 32 ((g.val : ℤ) - 126) := by
      decide +kernel
    exact this ⟨f, by omega⟩
  rw [if_neg hk, if_neg hori, hk2, r_floor hpos, c_128]
  refine ⟨(f : ℤ) - 126, by omega, by omega, rfl, ?_⟩
  show min _ _ = _
  by_cases f254 : f = 254
  · subst f254
    have := le_floor_log hlo'
    rw [min_eq_right]
    · norm_num
    · rw [EReal.coe_le_coe_iff]
      have h2 : (128 : ℤ) ≤ ⌊Real.log t * (Real.log 2)⁻¹⌋ + 1 := by
        have : (127 : ℤ) ≤ ⌊Real.log t * (Real.log 2)⁻¹⌋ := by simpa using this
        omega
      exact_mod_cast h2
  · have hhi' : t < (2 : ℝ) ^ ((f : ℤ) - 127 + 1) := by
      rcases hhi with h | h
      · exact absurd h f255
      · rw [thr_mid (by omega) (by omega), EReal.coe_lt_coe_iff] at h
        refine lt_of_lt_of_eq h ?_
        congr 1; push_cast; ring
    rw [floor_log hlo' hhi', min_eq_left]
    · congr 2; ring
    · rw [EReal.coe_le_coe_iff]
      have : ((f : ℤ) - 127 + 1 : ℤ) ≤ 128 := by omega
      exact_mod_cast this

/-! ## The scales -/

/-- The kernel's `2 ^ e` on the integers it is asked for: zero below the least exponent, `⊤` at `128`. -/
theorem kPow_eq {E : ℤ} (h1 : -128 ≤ E) (h2 : E ≤ 128) :
    kPow (BitVec.ofInt 32 E) = if E ≤ -127 then 0 else if E = 128 then ⊤ else (((2 : ℝ) ^ E : ℝ) : EReal) := by
  have key : ∀ g : Fin 257, IntOp.shli .vector (IntOp.addi (IntOp.minsi 128#32 (IntOp.maxsi 4294967169#32
      (BitVec.ofInt 32 ((g.val : ℤ) - 128)))) 127#32) 23#32 = BitVec.ofNat 32 (g.val - 1) <<< 23 := by decide +kernel
  obtain ⟨n, rfl⟩ : ∃ n : ℕ, E = (n : ℤ) - 128 := ⟨(E + 128).toNat, by omega⟩
  have hn := key ⟨n, by omega⟩
  unfold kPow
  dsimp only at hn
  rw [hn]
  show thr (n - 1) = _
  by_cases c1 : (n : ℤ) - 128 ≤ -127
  · rw [if_pos c1, show n - 1 = 0 by omega, thr_zero]
  · rw [if_neg c1]
    by_cases c2 : (n : ℤ) - 128 = 128
    · rw [if_pos c2, show n - 1 = 255 by omega, thr_top]
    · rw [if_neg c2, thr_mid (by omega) (by omega)]
      congr 2
      omega

/-- The reference's `exp2` at an integer. -/
theorem exp2_int (E : ℤ) : FloatOps.exp2 (F := Ideal) (φ := .f32) ((E : ℝ) : EReal) = (((2 : ℝ) ^ E : ℝ) : EReal) := by
  show ((Real.rpow 2 (E : ℝ) : ℝ) : EReal) = _
  congr 1
  exact Real.rpow_intCast 2 E

/-- The two scales are equal. -/
theorem kScale_eq {a : EReal} (ha : 0 ≤ a) : kScale a = rScale a := by
  obtain ⟨E, h1, h2, hk, hr⟩ := exp_eq ha
  unfold kScale rScale
  rw [hk, hr, kPow_eq (by omega) h2, if_neg (by omega), c_127, c_top, exp2_int, Ideal.cmpf_def]
  unfold Ideal.cmp Scalar.select
  by_cases c : E = 128
  · subst c
    rw [if_pos rfl, if_pos]
    simp only [EReal.coe_lt_coe_iff]
    norm_num
  · rw [if_neg c, if_neg]
    have : ¬ ((127 : ℝ) < (E : ℝ)) := by
      rw [not_lt]
      have : E ≤ 127 := by omega
      exact_mod_cast this
    simp [EReal.coe_lt_coe_iff, this]

/-- The two inverse scales are equal. -/
theorem kInv_eq {a : EReal} (ha : 0 ≤ a) : kInv a = rInv a := by
  obtain ⟨E, h1, h2, hk, hr⟩ := exp_eq ha
  have e : IntOp.subi 0#32 (BitVec.ofInt 32 E) = BitVec.ofInt 32 (-E) := by
    unfold IntOp.subi
    rw [BitVec.ofInt_neg]; simp
  have e2 : FloatOps.subf (F := Ideal) (φ := .f32) (0 : EReal) ((E : ℝ) : EReal) = (((-E : ℤ) : ℝ) : EReal) := by
    show (0 : EReal) - ((E : ℝ) : EReal) = _
    rw [zero_sub, ← EReal.coe_neg]; push_cast; rfl
  unfold kInv rInv
  rw [hk, hr, e, kPow_eq (by omega) (by omega), c_126, c_zero, e2, exp2_int, Ideal.cmpf_def]
  unfold Ideal.cmp Scalar.select
  by_cases c : 127 ≤ E
  · rw [if_pos (by omega), if_pos]
    have : (126 : ℝ) < (E : ℝ) := by
      have : (126 : ℤ) < E := by omega
      exact_mod_cast this
    simp [EReal.coe_lt_coe_iff, this]
  · rw [if_neg (by omega), if_neg (by omega), if_neg]
    have : ¬ ((126 : ℝ) < (E : ℝ)) := by
      rw [not_lt]
      have : E ≤ 126 := by omega
      exact_mod_cast this
    simp [EReal.coe_lt_coe_iff, this]

end Cert.Scale

end
-- ==== Proof.Spec.lean ====
/-
  What both programs compute, one row at a time, at exact arithmetic: a row `x` of activations is quantised (its scale
  a power of two taken from the row's greatest magnitude), multiplied by the weights, scaled back, put through the
  gated activation, and quantised again. The functions are stated over any rule `S` for the scale and `I` for its
  inverse, so that the two programs, which find the power of two differently, instantiate them differently.
-/
module

public import Idealize.ShloMosaic.PureOps.Ideal.Laws
public import Idealize.ShloMosaic.Lib.ValueIdx
public import Idealize.ShloMosaic.Lib.ValueLayout
public import Idealize.ShloMosaic.Lib.Pipeline.Value
public import Idealize.ShloMosaic.Lib.MatmulPlain
public import proofs.«01_k».proof.Proof.Scale

@[expose] public section

noncomputable section

namespace Cert.Spec

open Idealize.ShloMosaic Idealize.ShloMosaic.ValueIdx

/-- The greatest magnitude of a row. -/
def rowMax {n : ℕ} (x : Fin n → EReal) : EReal := (Finset.univ : Finset (Fin n)).fold max ⊥ (fun k => max (x k) (-(x k)))

/-- The greatest magnitude is at most `c` exactly where every magnitude is. -/
theorem rowMax_le {n : ℕ} (x : Fin n → EReal) (c : EReal) : rowMax x ≤ c ↔ ∀ k, max (x k) (-(x k)) ≤ c := by
  unfold rowMax
  rw [Finset.fold_max_le]
  simp

/-- A magnitude is not negative. -/
theorem abs_nonneg (x : EReal) : 0 ≤ max x (-x) := by
  rcases le_total 0 x with h | h
  · exact le_max_of_le_left h
  · exact le_max_of_le_right (by rw [EReal.le_neg, neg_zero]; exact h)

/-- The greatest magnitude of a row that has an element is not negative. -/
theorem rowMax_nonneg {n : ℕ} (h : 0 < n) (x : Fin n → EReal) : 0 ≤ rowMax x :=
  le_trans (abs_nonneg (x ⟨0, h⟩)) ((rowMax_le x _).mp le_rfl ⟨0, h⟩)

/-- The least and the greatest value a code may take: minus and plus 448. -/
def lo : EReal := FloatOps.ofBits (F := Ideal) .f32 0xC3E00000#32
/-- The upper clip of the codes, 448. -/
def hi : EReal := FloatOps.ofBits (F := Ideal) .f32 0x43E00000#32

/-- The code of a row's element: the element over the scale, held between minus and plus 448. -/
def code {n : ℕ} (I : EReal → EReal) (x : Fin n → EReal) (k : Fin n) : EReal := min hi (max lo (x k * I (rowMax x)))

/-- Element `n` of the product of a row's codes with the weights, scaled back. -/
def prod (S I : EReal → EReal) (x : Fin 3584 → EReal) (w : Fin 3584 → Fin 3584 → EReal) (ws : Fin 3584 → EReal)
    (n : Fin 3584) : EReal := (∑ k, code I x k * w k n) * S (rowMax x) * ws n

/-- The gated activation of a gate and an up value. -/
def gated (g u : EReal) : EReal := g * FloatOps.logistic (F := Ideal) (φ := .f32) g * u

/-- Element `j` of the row the second quantisation takes: the first half of the product gates the second. -/
def hid (S I : EReal → EReal) (x : Fin 3584 → EReal) (w : Fin 3584 → Fin 3584 → EReal) (ws : Fin 3584 → EReal)
    (j : Fin 1792) : EReal :=
  gated (prod S I x w ws ⟨j.val, by omega⟩) (prod S I x w ws ⟨j.val + 1792, by omega⟩)

/-- Two rules that agree on what is not negative give one code, -/
theorem code_congr {I I' : EReal → EReal} (hI : ∀ a, 0 ≤ a → I a = I' a) {n : ℕ} (x : Fin n → EReal) (k : Fin n) :
    code I x k = code I' x k := by
  unfold code
  rw [hI _ (rowMax_nonneg (by have := k.isLt; omega) x)]

/-- and one hidden row. -/
theorem hid_congr {S S' I I' : EReal → EReal} (hS : ∀ a, 0 ≤ a → S a = S' a) (hI : ∀ a, 0 ≤ a → I a = I' a)
    (x : Fin 3584 → EReal) (w : Fin 3584 → Fin 3584 → EReal) (ws : Fin 3584 → EReal) :
    hid S I x w ws = hid S' I' x w ws := by
  have hp : ∀ n, prod S I x w ws n = prod S' I' x w ws n := fun n => by
    unfold prod
    rw [hS _ (rowMax_nonneg (by norm_num) x)]
    simp only [code_congr hI]
  funext j
  unfold hid
  rw [hp, hp]

/-! ## Vector operations read at an index -/

section Read
variable {R n : ℕ}

/-- The pattern of minus infinity. -/
theorem c_bot : FloatOps.ofBits (F := Ideal) .f32 0xFF800000#32 = (⊥ : EReal) := by
  show Ideal.ieee 8 23 0xFF800000#32 = _
  unfold Ideal.ieee
  have h1 : ((0xFF800000#32).extractLsb' 23 8).toNat = 255 := by decide
  have h2 : ((0xFF800000#32).extractLsb' 0 23).toNat = 0 := by decide
  have h3 : ((0xFF800000#32).extractLsb' 31 1 == 1#1) = true := by decide
  simp [h1, h2, h3]

/-- The kernel's and the reference's row maximum of magnitudes, at a row. -/
theorem rowTop_apply (v : FVec Ideal ⟨2, ![R, n]⟩ .f32) (h : (⟨2, ![R, n]⟩ : Shape).Reduces [1] ⟨1, ![R]⟩)
    (hφ : FKind.Formats .f32) (hacc : (0xFF800000#32 : BitVec (FTy.f32).bits) = FKind.maximumf.neutral .f32 hφ)
    (hs : (⟨1, ![R]⟩ : Shape).ShapeCasts ⟨2, ![R, 1]⟩) (r : Fin R) (z : Fin 1) :
    shapeCast ⟨2, ![R, 1]⟩ (multiReduction (F := Ideal) .maximumf [1] ⟨1, ![R]⟩ (absf v) 0xFF800000#32 h hφ hacc) hs (ix2 r z)
      = rowMax (fun k => v (ix2 r k)) := by
  rw [shapeCast_apply _ hs (ix2 r z) (ix1 r) (by
    rw [Shape.rowMajor_val_one, Shape.rowMajor_val_two]
    show r.val = r.val * 1 + z.val
    omega)]
  rw [Ideal.multiReduction_maximumf_single, c_bot]
  unfold rowMax
  refine congrArg (Finset.fold max ⊥ · Finset.univ) (funext fun k => ?_)
  have e : h.lift (ix1 r) k = ix2 r k := by
    funext c; apply Fin.ext
    match c with
    | ⟨0, _⟩ => rfl
    | ⟨1, _⟩ => rfl
  show max (v (h.lift (ix1 r) k)) (-(v (h.lift (ix1 r) k))) = _
  rw [e]
  rfl

/-- One column broadcast along the rows, at an index. -/
theorem column_apply {α : Type} (v : (⟨2, ![R, 1]⟩ : Shape).Idx → α) (h : (⟨2, ![R, 1]⟩ : Shape).Broadcasts ⟨2, ![R, n]⟩)
    (r : Fin R) (c : Fin n) : broadcastTo ⟨2, ![R, n]⟩ v h (ix2 r c) = v (ix2 r 0) := by
  refine broadcastTo_apply v h (ix2 r c) (ix2 r 0) fun a => ?_
  match a with
  | ⟨0, _⟩ =>
    show r.val = if R = 1 then 0 else r.val
    split <;> omega
  | ⟨1, _⟩ => rfl

/-- One row broadcast down the rows, at an index. -/
theorem row_apply {α : Type} (v : (⟨2, ![1, n]⟩ : Shape).Idx → α) (h : (⟨2, ![1, n]⟩ : Shape).Broadcasts ⟨2, ![R, n]⟩)
    (r : Fin R) (c : Fin n) : broadcastTo ⟨2, ![R, n]⟩ v h (ix2 r c) = v (ix2 0 c) := by
  refine broadcastTo_apply v h (ix2 r c) (ix2 0 c) fun a => ?_
  match a with
  | ⟨0, _⟩ => rfl
  | ⟨1, _⟩ =>
    show c.val = if n = 1 then 0 else c.val
    split <;> omega

end Read

end Cert.Spec
-- ==== Proof.KernelScale.lean ====
/-
  The kernel's scale computations as it prints them, over a column of row maxima, are `Cert.Scale`'s functions at every
  row: the search's eight steps are spread over several of the printed program's intermediate values, and are gathered
  here.
-/
module

public import proofs.«01_k».proof.Proof.Gen.KernelIdeal.Skeleton
public import proofs.«01_k».proof.Proof.Spec

@[expose] public section

noncomputable section

namespace Cert.KernelBlock

open Cert.KernelIdeal Cert.KernelIdeal.Gen Idealize.ShloMosaic Idealize.ShloMosaic.ValueIdx

/-- The first row maximum's scale, as the kernel stores it. -/
theorem x_scale (x : Vec Ideal S256x3584 .bf16) :
    k0_pay10 (F := Ideal) (k0_pay3 (F := Ideal) x) (k0_pay7 (k0_pay4 (F := Ideal) x) (k0_pay5 (F := Ideal) x) (k0_pay6 (F := Ideal) x)) (k0_pay8 (k0_pay4 (F := Ideal) x) (k0_pay5 (F := Ideal) x) (k0_pay6 (F := Ideal) x)) 126#32
      = fun i => Scale.kScale (k0_pay3 (F := Ideal) x i) := rfl

/-- The second row maximum's scale, as the kernel stores it. -/
theorem h_scale (m : FVec Ideal S256x1 .f32) (h : FVec Ideal S256x256 .f32) :
    k0_pay49 (F := Ideal) (k0_pay40 (F := Ideal) m h)
        (k0_pay46 (k0_pay41 (F := Ideal) m h) (k0_pay42 (F := Ideal) m h) (k0_pay43 (F := Ideal) m h) (k0_pay44 (F := Ideal) m h))
        (k0_pay47 (k0_pay41 (F := Ideal) m h) (k0_pay42 (F := Ideal) m h) (k0_pay43 (F := Ideal) m h) (k0_pay44 (F := Ideal) m h)) 0#32
      = fun i => Scale.kScale (k0_pay40 (F := Ideal) m h i) := rfl

/-- The first codes, as the kernel stores them. -/
theorem x_codes (x : Vec Ideal S256x3584 .bf16) :
    k0_pay11 (F := Ideal) (k0_pay2 (F := Ideal) x) (k0_pay3 (F := Ideal) x) (k0_pay7 (k0_pay4 (F := Ideal) x) (k0_pay5 (F := Ideal) x) (k0_pay6 (F := Ideal) x))
        (k0_pay8 (k0_pay4 (F := Ideal) x) (k0_pay5 (F := Ideal) x) (k0_pay6 (F := Ideal) x)) 126#32
      = truncf .fp8e4m3 (minimumf (broadcast S256x3584 Spec.hi) (maximumf (broadcast S256x3584 Spec.lo)
          (mulf (k0_pay2 (F := Ideal) x) (broadcastTo S256x3584 (fun i => Scale.kInv (k0_pay3 (F := Ideal) x i)) broadcasts_S256x1_S256x3584))))
          bitsLt_fp8e4m3_f32 := rfl

/-- The second codes, as the kernel stores them, from the row `v` it reads back. -/
theorem h_codes (m : FVec Ideal S256x1 .f32) (h : FVec Ideal S256x256 .f32) (v : Vec Ideal S256x1792 .f32) :
    k0_pay1 (F := Ideal) (FloatOps.ofBits .f32 0x43E00000#32) (k0_pay50 (k0_pay40 (F := Ideal) m h)
        (k0_pay46 (k0_pay41 (F := Ideal) m h) (k0_pay42 (F := Ideal) m h) (k0_pay43 (F := Ideal) m h) (k0_pay44 (F := Ideal) m h))
        (k0_pay47 (k0_pay41 (F := Ideal) m h) (k0_pay42 (F := Ideal) m h) (k0_pay43 (F := Ideal) m h) (k0_pay44 (F := Ideal) m h)) 0#32 v)
      = truncf .fp8e4m3 (minimumf (broadcast S256x1792 Spec.hi) (maximumf (broadcast S256x1792 Spec.lo)
          (mulf v (broadcastTo S256x1792 (fun i => Scale.kInv (k0_pay40 (F := Ideal) m h i)) broadcasts_S256x1_S256x1792))))
          bitsLt_fp8e4m3_f32 := rfl

end Cert.KernelBlock
-- ==== Proof.KernelChunk.lean ====
/-
  One column chunk of the kernel's work: 256 columns of the gate half and the 256 columns of the up half that go with
  them. The seven chunks print as different groupings of the same operations; each is `Gen.k0_pay13` of its own slices,
  and each running maximum is `Gen.k0_pay40` of the one before.
-/
module

public import proofs.«01_k».proof.Proof.Gen.KernelIdeal.Skeleton
public import proofs.«01_k».proof.Proof.Spec

@[expose] public section

noncomputable section

namespace Cert.KernelBlock

open Cert.KernelIdeal Cert.KernelIdeal.Gen Idealize.ShloMosaic Idealize.ShloMosaic.ValueIdx

section Forms
variable (s m m' : FVec Ideal S256x1 .f32) (q : Vec Ideal S256x3584 .fp8e4m3) (wg wu : Vec Ideal S3584x256 .fp8e4m3)
  (sg su : Vec Ideal S1x256 .f32) (h : FVec Ideal S256x256 .f32)

/-- This chunk is `k0_pay13` of its own slices. -/
theorem pay14_eq : k0_pay14 s q wg wu sg su = k0_pay13 s q wg wu sg su := shapeCast_self _ _
/-- This chunk is `k0_pay13` of its own slices. -/
theorem pay20_eq : k0_pay20 s (k0_pay17 q wu) (k0_pay18 s q wg) sg su = k0_pay13 s q wg wu sg su := shapeCast_self _ _
/-- This chunk is `k0_pay13` of its own slices. -/
theorem pay22_eq : k0_pay22 s q wg wu sg su = k0_pay13 s q wg wu sg su := rfl
/-- A chunk is stored as it is. -/
theorem pay23_eq : k0_pay23 h = h := shapeCast_self _ _
/-- This chunk is `k0_pay13` of its own slices. -/
theorem pay25_eq : k0_pay25 s q wg wu sg su = k0_pay13 s q wg wu sg su := shapeCast_self _ _
/-- This chunk is `k0_pay13` of its own slices. -/
theorem pay29_eq : k0_pay29 s (k0_pay27 q) wg wu sg su = k0_pay13 s q wg wu sg su := shapeCast_self _ _
/-- This chunk is `k0_pay13` of its own slices. -/
theorem pay36_eq : k0_pay36 s (k0_pay32 q wu) (k0_pay33 s q wg) (k0_pay34 sg) su = k0_pay13 s q wg wu sg su := shapeCast_self _ _
/-- This chunk is `k0_pay13` of its own slices. -/
theorem pay38_eq : k0_pay38 s q wg wu sg su = k0_pay13 s q wg wu sg su := rfl
/-- A chunk is stored as it is. -/
theorem pay39_eq : k0_pay39 h = h := shapeCast_self _ _

/-- The running maximum after the first chunk. -/
theorem pay15_eq : k0_pay15 s m q wg wu sg su = k0_pay40 m (k0_pay13 s q wg wu sg su) := rfl
/-- The running maximum after another chunk. -/
theorem pay21_eq : k0_pay21 s m (k0_pay17 q wu) (k0_pay18 s q wg) sg su = k0_pay40 m (k0_pay13 s q wg wu sg su) := rfl
/-- The running maximum after two more chunks. -/
theorem pay26_eq : k0_pay26 s m h q wg wu sg su = k0_pay40 (k0_pay40 m h) (k0_pay13 s q wg wu sg su) := rfl
/-- The running maximum after another chunk. -/
theorem pay30_eq : k0_pay30 s m (k0_pay27 q) wg wu sg su = k0_pay40 m (k0_pay13 s q wg wu sg su) := rfl
/-- The running maximum after another chunk. -/
theorem pay37_eq : k0_pay37 s m (k0_pay32 q wu) (k0_pay33 s q wg) (k0_pay34 sg) su = k0_pay40 m (k0_pay13 s q wg wu sg su) := rfl

end Forms

/-- A chunk's product of codes and weights, at an index. -/
theorem dot_apply (q : FVec Ideal S256x3584 .fp8e4m3) (w : FVec Ideal S3584x256 .fp8e4m3) (r c : Fin 256) :
    matmul dot_S256x3584_S3584x256_S256x256_1_0_0_1_n_n none q w (constant S256x256 .f32 0x00000000#32) (ix2 r c)
      = ∑ k : Fin 3584, q (ix2 r k) * w (ix2 k c) := by
  refine (Ideal.matmul_plain_apply (M := 256) (K := 3584) (N := 256) none q w _ r c).trans ?_
  rw [constant_apply, Ideal.ofBits_zero_f32, zero_add]

/-- A chunk of the hidden row, at an index: the gated product, from the chunk's slices. -/
theorem chunk_apply (s : FVec Ideal S256x1 .f32) (q : Vec Ideal S256x3584 .fp8e4m3) (wg wu : Vec Ideal S3584x256 .fp8e4m3)
    (sg su : Vec Ideal S1x256 .f32) (r c : Fin 256) :
    k0_pay13 (F := Ideal) s q wg wu sg su (ix2 r c)
      = Spec.gated ((∑ k : Fin 3584, q (ix2 r k) * wg (ix2 k c)) * s (ix2 r 0) * sg (ix2 0 c))
          ((∑ k : Fin 3584, q (ix2 r k) * wu (ix2 k c)) * s (ix2 r 0) * su (ix2 0 c)) := by
  unfold k0_pay13 Spec.gated
  simp only [shapeCast_self, mulf_apply]
  rw [dot_apply, dot_apply, Spec.column_apply, Spec.row_apply, Spec.row_apply]
  have e : ∀ v : FVec Ideal S256x256 .f32, logistic v (ix2 r c) = FloatOps.logistic (F := Ideal) (φ := .f32) (v (ix2 r c)) := fun _ => rfl
  rw [e, mulf_apply, mulf_apply, dot_apply, Spec.column_apply, Spec.row_apply]

/-- The running maximum after one more chunk, at a row. -/
theorem top_apply (m : FVec Ideal S256x1 .f32) (h : FVec Ideal S256x256 .f32) (r : Fin 256) :
    k0_pay40 m h (ix2 r 0) = max (m (ix2 r 0)) (Spec.rowMax fun k : Fin 256 => h (ix2 r k)) := by
  unfold k0_pay40
  rw [maximumf_apply]
  exact congrArg (max _) (Spec.rowTop_apply h _ _ _ _ r 0)

/-- The first row maximum, at a row. -/
theorem xtop_apply (x : Vec Ideal S256x3584 .bf16) (r : Fin 256) :
    k0_pay3 (F := Ideal) x (ix2 r 0) = Spec.rowMax fun k : Fin 3584 => x (ix2 r k) := by
  unfold k0_pay3
  refine (Spec.rowTop_apply _ _ _ _ _ r 0).trans ?_
  unfold k0_pay2
  rw [shapeCast_self]
  rfl

end Cert.KernelBlock
-- ==== Proof.KernelBlock.lean ====
/-
  What the kernel leaves in its four output blocks at one grid point, as the functions of `Cert.Spec` of the block's
  rows. The hidden row is computed in seven chunks of 256 columns that pass through a scratch buffer; the buffer read
  back whole is the hidden row, and the running maximum over the chunks is the row's maximum.
-/
module

public import proofs.«01_k».proof.Proof.Gen.KernelIdeal.Frame
public import Idealize.ShloMosaic.Lib.Pipeline.ValueKit
public import Idealize.ShloMosaic.Lib.Tactic
public import proofs.«01_k».proof.Proof.KernelScale
public import proofs.«01_k».proof.Proof.KernelChunk

@[expose] public section

noncomputable section

namespace Cert.KernelBlock

open Cert.KernelIdeal Cert.KernelIdeal.Gen Idealize.ShloMosaic.ValueIdx Idealize.SL.Sem
open Idealize.ShloMosaic hiding ix2 eq_ix2 truncf_apply minimumf_apply maximumf_apply mulf_apply

/-! ## The block's rows and slices -/

/-- Row `r` of a block of activations. -/
def xrow (x : Vec Ideal S256x3584 .bf16) (r : Fin 256) : Fin 3584 → EReal := fun k => x (ix2 r k)
/-- The weights as a function of row and column. -/
def wmat (w : Vec Ideal S3584x3584 .fp8e4m3) : Fin 3584 → Fin 3584 → EReal := fun k n => w (ix2 k n)
/-- The weights' scales as a function of the column. -/
def wscale (s : Vec Ideal S1x3584 .f32) : Fin 3584 → EReal := fun n => s (ix2 0 n)

/-- 256 columns of the weights, from column `n`. -/
def wPart (w : Vec Ideal S3584x3584 .fp8e4m3) (n : ℕ) : Vec Ideal S3584x256 .fp8e4m3 :=
  fun y => w (ix2 (y 0) (Fin.ofNat 3584 (n + (y 1).val)))
/-- 256 of the weights' scales, from column `n`. -/
def sPart (s : Vec Ideal S1x3584 .f32) (n : ℕ) : Vec Ideal S1x256 .f32 :=
  fun y => s (ix2 0 (Fin.ofNat 3584 (n + (y 1).val)))

/-- A load of 256 columns of the weights. -/
theorem ld_w (w : Vec Ideal S3584x3584 .fp8e4m3) (n : ℕ) (inb : ∀ a, (![0, n] : Fin 2 → ℕ) a + (![3584, 256] : Fin 2 → ℕ) a ≤ S3584x3584.size a) :
    View.ld (Val := Elt Ideal) w (Rect.unit (s := S3584x3584) ![0, n] ![3584, 256] inb) = wPart w n := by
  funext y
  refine congrArg w (funext fun a => Fin.ext ?_)
  match a with
  | ⟨0, _⟩ => show 0 + 1 * (y 0).val = (y 0).val; omega
  | ⟨1, _⟩ =>
    have h1 : (y 1).val < 256 := (y 1).isLt
    have h2 : n + 256 ≤ 3584 := inb 1
    show n + 1 * (y 1).val = (n + (y 1).val) % 3584
    omega

/-- A load of 256 of the weights' scales. -/
theorem ld_s (s : Vec Ideal S1x3584 .f32) (n : ℕ) (inb : ∀ a, (![0, n] : Fin 2 → ℕ) a + (![1, 256] : Fin 2 → ℕ) a ≤ S1x3584.size a) :
    View.ld (Val := Elt Ideal) s (Rect.unit (s := S1x3584) ![0, n] ![1, 256] inb) = sPart s n := by
  funext y
  refine congrArg s (funext fun a => Fin.ext ?_)
  match a with
  | ⟨0, _⟩ => show 0 + 1 * (y 0).val = 0; have : (y 0).val < 1 := (y 0).isLt; omega
  | ⟨1, _⟩ =>
    have h1 : (y 1).val < 256 := (y 1).isLt
    have h2 : n + 256 ≤ 3584 := inb 1
    show n + 1 * (y 1).val = (n + (y 1).val) % 3584
    omega

/-! ## The four blocks as functions of the inputs' blocks -/

/-- The block of first scales. -/
def xScaleB (x : Vec Ideal S256x3584 .bf16) : FVec Ideal S256x1 .f32 := fun y => Scale.kScale (Spec.rowMax (xrow x (y 0)))
/-- The block of first codes. -/
def xCodeB (x : Vec Ideal S256x3584 .bf16) : FVec Ideal S256x3584 .fp8e4m3 := fun y => Spec.code Scale.kInv (xrow x (y 0)) (y 1)
/-- A row of the block of hidden values. -/
def hrow (x : Vec Ideal S256x3584 .bf16) (w : Vec Ideal S3584x3584 .fp8e4m3) (s : Vec Ideal S1x3584 .f32) (r : Fin 256) :
    Fin 1792 → EReal := Spec.hid Scale.kScale Scale.kInv (xrow x r) (wmat w) (wscale s)
/-- The block of second scales. -/
def hScaleB (x : Vec Ideal S256x3584 .bf16) (w : Vec Ideal S3584x3584 .fp8e4m3) (s : Vec Ideal S1x3584 .f32) :
    FVec Ideal S256x1 .f32 := fun y => Scale.kScale (Spec.rowMax (hrow x w s (y 0)))
/-- The block of second codes. -/
def hCodeB (x : Vec Ideal S256x3584 .bf16) (w : Vec Ideal S3584x3584 .fp8e4m3) (s : Vec Ideal S1x3584 .f32) :
    FVec Ideal S256x1792 .fp8e4m3 := fun y => Spec.code Scale.kInv (hrow x w s (y 0)) (y 1)

/-- Columns `n … n + 255` of the block of hidden values. -/
def hChunk (x : Vec Ideal S256x3584 .bf16) (w : Vec Ideal S3584x3584 .fp8e4m3) (s : Vec Ideal S1x3584 .f32) (n : ℕ)
    (h : n + 256 ≤ 1792) : FVec Ideal S256x256 .f32 :=
  fun y => hrow x w s (y 0) ⟨n + (y 1).val, by have : (y 1).val < 256 := (y 1).isLt; omega⟩

/-- The first scales as the kernel prints them. -/
theorem xScale_eq (x : Vec Ideal S256x3584 .bf16) :
    k0_pay10 (F := Ideal) (k0_pay3 x) (k0_pay7 (k0_pay4 (F := Ideal) x) (k0_pay5 (F := Ideal) x) (k0_pay6 (F := Ideal) x)) (k0_pay8 (k0_pay4 (F := Ideal) x) (k0_pay5 (F := Ideal) x) (k0_pay6 (F := Ideal) x)) 126#32
      = xScaleB x := by
  rw [x_scale]
  funext y
  obtain ⟨r, z, rfl⟩ : ∃ r z, y = ix2 r z := ⟨_, _, eq_ix2 y⟩
  obtain rfl : z = 0 := Subsingleton.elim _ _
  show Scale.kScale (k0_pay3 (F := Ideal) x (ix2 r 0)) = _
  rw [xtop_apply]
  rfl

/-- The first codes as the kernel prints them. -/
theorem xCode_eq (x : Vec Ideal S256x3584 .bf16) :
    k0_pay11 (F := Ideal) (k0_pay2 (F := Ideal) x) (k0_pay3 (F := Ideal) x) (k0_pay7 (k0_pay4 (F := Ideal) x) (k0_pay5 (F := Ideal) x) (k0_pay6 (F := Ideal) x))
        (k0_pay8 (k0_pay4 (F := Ideal) x) (k0_pay5 (F := Ideal) x) (k0_pay6 (F := Ideal) x)) 126#32 = xCodeB x := by
  rw [x_codes]
  funext y
  obtain ⟨r, k, rfl⟩ : ∃ r k, y = ix2 r k := ⟨_, _, eq_ix2 y⟩
  rw [truncf_apply, minimumf_apply, maximumf_apply, mulf_apply, Spec.column_apply, xtop_apply]
  unfold k0_pay2
  rw [shapeCast_self]
  rfl

/-- A chunk as the kernel prints it, from the block's own scales and codes. -/
theorem chunk_eq (x : Vec Ideal S256x3584 .bf16) (w : Vec Ideal S3584x3584 .fp8e4m3) (s : Vec Ideal S1x3584 .f32) (n n' : ℕ)
    (h : n + 256 ≤ 1792) (hn : n' = n + 1792) :
    k0_pay13 (F := Ideal) (xScaleB x) (xCodeB x) (wPart w n) (wPart w n') (sPart s n) (sPart s n') = hChunk x w s n h := by
  subst hn
  funext y
  obtain ⟨r, c, rfl⟩ : ∃ r c, y = ix2 r c := ⟨_, _, eq_ix2 y⟩
  rw [chunk_apply]
  have hc := c.isLt
  have e : ∀ (k : ℕ) (hk : k < 3584), Fin.ofNat 3584 k = ⟨k, hk⟩ := fun k hk => Fin.ext (Nat.mod_eq_of_lt hk)
  exact congrArg₂ Spec.gated
    (congrArg (Spec.prod Scale.kScale Scale.kInv (xrow x r) (wmat w) (wscale s)) (e (n + c.val) (by omega)))
    (congrArg (Spec.prod Scale.kScale Scale.kInv (xrow x r) (wmat w) (wscale s))
      (Fin.ext (by show (n + 1792 + c.val) % 3584 = n + c.val + 1792; omega)))

/-! ## The scratch buffer read back, and the running maximum -/

/-- The block of hidden values. -/
def hB (x : Vec Ideal S256x3584 .bf16) (w : Vec Ideal S3584x3584 .fp8e4m3) (s : Vec Ideal S1x3584 .f32) :
    Vec Ideal S256x1792 .f32 := fun y => hrow x w s (y 0) (y 1)

/-- The seven chunks stored side by side hold the block of hidden values. -/
theorem stored_eq (x : Vec Ideal S256x3584 .bf16) (w : Vec Ideal S3584x3584 .fp8e4m3) (s : Vec Ideal S1x3584 .f32) (y : S256x1792.Idx) :
    View.canon (Val := Elt Ideal) (s := S256x1792) (e := .f32)
      [⟨Rect.unit ![0, 1536] ![256, 256] inb_S256x1792_S256x256_0_1536, hChunk x w s 1536 (by norm_num)⟩,
        ⟨Rect.unit ![0, 1280] ![256, 256] inb_S256x1792_S256x256_0_1280, hChunk x w s 1280 (by norm_num)⟩,
        ⟨Rect.unit ![0, 1024] ![256, 256] inb_S256x1792_S256x256_0_1024, hChunk x w s 1024 (by norm_num)⟩,
        ⟨Rect.unit ![0, 768] ![256, 256] inb_S256x1792_S256x256_0_768, hChunk x w s 768 (by norm_num)⟩,
        ⟨Rect.unit ![0, 512] ![256, 256] inb_S256x1792_S256x256_0_512, hChunk x w s 512 (by norm_num)⟩,
        ⟨Rect.unit ![0, 256] ![256, 256] inb_S256x1792_S256x256_0_256, hChunk x w s 256 (by norm_num)⟩,
        ⟨Rect.unit ![0, 0] ![256, 256] inb_S256x1792_S256x256_0_0, hChunk x w s 0 (by norm_num)⟩] y
      = hB x w s y := by
  canon_tiles u hu <;>
  · refine congrArg₂ (hrow x w s) ?_ ?_
    · exact Fin.ext (by show (u 0).val = (y 0).val; omega)
    · exact Fin.ext (by show _ + (u 1).val = (y 1).val; omega)

/-- The whole scratch buffer read back is the block of hidden values. -/
theorem readback_eq (v : View sig .tc .vmem S256x1792 .f32) (x : Vec Ideal S256x3584 .bf16) (w : Vec Ideal S3584x3584 .fp8e4m3) (s : Vec Ideal S1x3584 .f32) :
    v.readCov (Val := Elt Ideal)
      [⟨Rect.unit ![0, 1536] ![256, 256] inb_S256x1792_S256x256_0_1536, hChunk x w s 1536 (by norm_num)⟩,
        ⟨Rect.unit ![0, 1280] ![256, 256] inb_S256x1792_S256x256_0_1280, hChunk x w s 1280 (by norm_num)⟩,
        ⟨Rect.unit ![0, 1024] ![256, 256] inb_S256x1792_S256x256_0_1024, hChunk x w s 1024 (by norm_num)⟩,
        ⟨Rect.unit ![0, 768] ![256, 256] inb_S256x1792_S256x256_0_768, hChunk x w s 768 (by norm_num)⟩,
        ⟨Rect.unit ![0, 512] ![256, 256] inb_S256x1792_S256x256_0_512, hChunk x w s 512 (by norm_num)⟩,
        ⟨Rect.unit ![0, 256] ![256, 256] inb_S256x1792_S256x256_0_256, hChunk x w s 256 (by norm_num)⟩,
        ⟨Rect.unit ![0, 0] ![256, 256] inb_S256x1792_S256x256_0_0, hChunk x w s 0 (by norm_num)⟩]
      (Rect.unit ![0, 0] ![256, 1792] inb_S256x1792_S256x1792_0_0).toLoadRect
      = hB x w s := by
  rw [View.readCov_eq_canon']
  funext y
  rw [stored_eq]
  refine congrArg₂ (hrow x w s) ?_ ?_
  · exact Fin.ext (by show 0 + 1 * (y 0).val = (y 0).val; omega)
  · exact Fin.ext (by show 0 + 1 * (y 1).val = (y 1).val; omega)

/-- The running maximum over the seven chunks, from zero, is the row's maximum. -/
theorem top_eq (x : Vec Ideal S256x3584 .bf16) (w : Vec Ideal S3584x3584 .fp8e4m3) (s : Vec Ideal S1x3584 .f32) (r : Fin 256) :
    k0_pay40 (F := Ideal) (k0_pay40 (k0_pay40 (k0_pay40 (k0_pay40 (k0_pay40 (k0_pay40 (k0_pay12 (F := Ideal))
      (hChunk x w s 0 (by norm_num))) (hChunk x w s 256 (by norm_num))) (hChunk x w s 512 (by norm_num)))
      (hChunk x w s 768 (by norm_num))) (hChunk x w s 1024 (by norm_num))) (hChunk x w s 1280 (by norm_num)))
      (hChunk x w s 1536 (by norm_num)) (ix2 r 0) = Spec.rowMax (hrow x w s r) := by
  rw [top_apply, top_apply, top_apply, top_apply, top_apply, top_apply, top_apply]
  have hz : k0_pay12 (F := Ideal) (ix2 r 0) = (0 : EReal) := Ideal.ofBits_zero_f32
  rw [hz]
  refine eq_of_forall_ge_iff fun c => ?_
  simp only [max_le_iff, Spec.rowMax_le]
  have hh : ∀ n h (k : Fin 256), hChunk x w s n h (ix2 r k) = hrow x w s r ⟨n + k.val, by omega⟩ := fun _ _ _ => rfl
  simp only [hh]
  constructor
  · rintro ⟨⟨⟨⟨⟨⟨⟨_, h0⟩, h1⟩, h2⟩, h3⟩, h4⟩, h5⟩, h6⟩ k
    have pick : ∀ n (hn : n + 256 ≤ 1792), n ≤ k.val → k.val < n + 256 →
        (∀ j : Fin 256, hrow x w s r ⟨n + j.val, by omega⟩ ≤ c ∧ -hrow x w s r ⟨n + j.val, by omega⟩ ≤ c) →
        hrow x w s r k ≤ c ∧ -hrow x w s r k ≤ c := by
      intro n hn h1 h2 H
      have := H ⟨k.val - n, by omega⟩
      have e : (⟨n + (k.val - n), by omega⟩ : Fin 1792) = k := Fin.ext (by show n + (k.val - n) = k.val; omega)
      simpa only [e] using this
    have := k.isLt
    rcases (by omega : k.val < 256 ∨ (256 ≤ k.val ∧ k.val < 512) ∨ (512 ≤ k.val ∧ k.val < 768) ∨ (768 ≤ k.val ∧ k.val < 1024)
      ∨ (1024 ≤ k.val ∧ k.val < 1280) ∨ (1280 ≤ k.val ∧ k.val < 1536) ∨ 1536 ≤ k.val) with h | h | h | h | h | h | h
    · exact pick 0 (by omega) (by omega) (by omega) h0
    · exact pick 256 (by omega) (by omega) (by omega) h1
    · exact pick 512 (by omega) (by omega) (by omega) h2
    · exact pick 768 (by omega) (by omega) (by omega) h3
    · exact pick 1024 (by omega) (by omega) (by omega) h4
    · exact pick 1280 (by omega) (by omega) (by omega) h5
    · exact pick 1536 (by omega) (by omega) (by omega) h6
  · intro H
    refine ⟨⟨⟨⟨⟨⟨⟨?_, fun k => H _⟩, fun k => H _⟩, fun k => H _⟩, fun k => H _⟩, fun k => H _⟩, fun k => H _⟩, fun k => H _⟩
    have := H 0
    exact le_trans (Spec.abs_nonneg _) (max_le_iff.mpr this)

/-! ## What one grid point leaves -/

section Point
variable (c : Dev nD) (i : grid0.Coords) (arg1 : Memref sig .tc .vmem S256x3584 .bf16) (harg1 : arg1.IsWhole) (arg2 : Memref sig .tc .vmem S3584x3584 .fp8e4m3) (harg2 : arg2.IsWhole) (arg3 : Memref sig .tc .vmem S1x3584 .f32) (harg3 : arg3.IsWhole) (arg4 : Memref sig .tc .vmem S256x1 .f32) (harg4 : arg4.IsWhole) (arg5 : Memref sig .tc .vmem S256x1792 .fp8e4m3) (harg5 : arg5.IsWhole) (arg6 : Memref sig .tc .vmem S256x3584 .fp8e4m3) (harg6 : arg6.IsWhole) (arg7 : Memref sig .tc .vmem S256x1 .f32) (harg7 : arg7.IsWhole) (arg8 : Memref sig .tc .vmem S256x1792 .f32) (harg8 : arg8.IsWhole)
  (x : Vec Ideal S256x3584 .bf16) (w : Vec Ideal S3584x3584 .fp8e4m3) (s : Vec Ideal S1x3584 .f32)

/-- The first scales. -/
theorem out_xScale : out0_A_6 c i arg1 harg1 arg2 harg2 arg3 harg3 arg4 harg4 arg5 harg5 arg6 harg6 arg7 harg7 arg8 harg8 x w s = xScaleB x := by
  frame_out
  exact xScale_eq x

/-- The first codes. -/
theorem out_xCode : out0_A_5 c i arg1 harg1 arg2 harg2 arg3 harg3 arg4 harg4 arg5 harg5 arg6 harg6 arg7 harg7 arg8 harg8 x w s = xCodeB x := by
  frame_out
  exact xCode_eq x

/-- The second scales. -/
theorem out_hScale : out0_A_3 c i arg1 harg1 arg2 harg2 arg3 harg3 arg4 harg4 arg5 harg5 arg6 harg6 arg7 harg7 arg8 harg8 x w s = hScaleB x w s := by
  frame_out
  simp only [xScale_eq, xCode_eq, ld_w, ld_s]
  simp only [pay14_eq, pay20_eq, pay22_eq, pay23_eq, pay25_eq, pay29_eq, pay36_eq, pay38_eq, pay39_eq, pay15_eq, pay21_eq, pay26_eq, pay30_eq, pay37_eq]
  simp only [chunk_eq x w s 0 1792 (by norm_num) rfl, chunk_eq x w s 256 2048 (by norm_num) rfl, chunk_eq x w s 512 2304 (by norm_num) rfl, chunk_eq x w s 768 2560 (by norm_num) rfl, chunk_eq x w s 1024 2816 (by norm_num) rfl, chunk_eq x w s 1280 3072 (by norm_num) rfl, chunk_eq x w s 1536 3328 (by norm_num) rfl]
  rw [h_scale]
  funext y
  obtain ⟨r, z, rfl⟩ : ∃ r z, y = ix2 r z := ⟨_, _, eq_ix2 y⟩
  obtain rfl : z = 0 := Subsingleton.elim _ _
  exact congrArg Scale.kScale (top_eq x w s r)

/-- The second codes. -/
theorem out_hCode : out0_A_4 c i arg1 harg1 arg2 harg2 arg3 harg3 arg4 harg4 arg5 harg5 arg6 harg6 arg7 harg7 arg8 harg8 x w s = hCodeB x w s := by
  frame_out
  simp only [xScale_eq, xCode_eq, ld_w, ld_s]
  simp only [pay14_eq, pay20_eq, pay22_eq, pay23_eq, pay25_eq, pay29_eq, pay36_eq, pay38_eq, pay39_eq, pay15_eq, pay21_eq, pay26_eq, pay30_eq, pay37_eq]
  simp only [chunk_eq x w s 0 1792 (by norm_num) rfl, chunk_eq x w s 256 2048 (by norm_num) rfl, chunk_eq x w s 512 2304 (by norm_num) rfl, chunk_eq x w s 768 2560 (by norm_num) rfl, chunk_eq x w s 1024 2816 (by norm_num) rfl, chunk_eq x w s 1280 3072 (by norm_num) rfl, chunk_eq x w s 1536 3328 (by norm_num) rfl]
  rw [h_codes]
  rw [readback_eq]
  funext y
  obtain ⟨r, k, rfl⟩ : ∃ r k, y = ix2 r k := ⟨_, _, eq_ix2 y⟩
  rw [truncf_apply, minimumf_apply, maximumf_apply, mulf_apply, Spec.column_apply, top_eq]
  rfl

end Point

end Cert.KernelBlock
-- ==== Proof.Arrays.lean ====
/-
  The four results as whole arrays, over the activations as a 1536 by 3584 array, the weights and their scales, for any
  way `S` of choosing a scale and `I` of choosing its inverse from a row's largest absolute value.
-/
module

public import proofs.«01_k».proof.Proof.Spec

@[expose] public section

noncomputable section

namespace Cert.Spec

open Idealize.ShloMosaic Idealize.ShloMosaic.ValueIdx

/-- A row of the activations. -/
def xRow (X : (⟨2, ![1536, 3584]⟩ : Shape).Idx → EReal) (r : Fin 1536) : Fin 3584 → EReal := fun k => X (ix2 r k)

/-- A row of the hidden values. -/
def hRow (S I : EReal → EReal) (X : (⟨2, ![1536, 3584]⟩ : Shape).Idx → EReal) (W : (⟨2, ![3584, 3584]⟩ : Shape).Idx → EReal)
    (T : (⟨2, ![1, 3584]⟩ : Shape).Idx → EReal) (r : Fin 1536) : Fin 1792 → EReal :=
  hid S I (xRow X r) (fun k n => W (ix2 k n)) (fun n => T (ix2 0 n))

/-- The first scales. -/
def xScaleA (S : EReal → EReal) (X : (⟨2, ![1536, 3584]⟩ : Shape).Idx → EReal) : (⟨2, ![1536, 1]⟩ : Shape).Idx → EReal :=
  fun i => S (rowMax (xRow X (i 0)))

/-- The first codes. -/
def xCodeA (I : EReal → EReal) (X : (⟨2, ![1536, 3584]⟩ : Shape).Idx → EReal) : (⟨2, ![1536, 3584]⟩ : Shape).Idx → EReal :=
  fun i => code I (xRow X (i 0)) (i 1)

/-- The second scales. -/
def hScaleA (S I : EReal → EReal) (X : (⟨2, ![1536, 3584]⟩ : Shape).Idx → EReal) (W : (⟨2, ![3584, 3584]⟩ : Shape).Idx → EReal)
    (T : (⟨2, ![1, 3584]⟩ : Shape).Idx → EReal) : (⟨2, ![1536, 1]⟩ : Shape).Idx → EReal :=
  fun i => S (rowMax (hRow S I X W T (i 0)))

/-- The second codes. -/
def hCodeA (S I : EReal → EReal) (X : (⟨2, ![1536, 3584]⟩ : Shape).Idx → EReal) (W : (⟨2, ![3584, 3584]⟩ : Shape).Idx → EReal)
    (T : (⟨2, ![1, 3584]⟩ : Shape).Idx → EReal) : (⟨2, ![1536, 1792]⟩ : Shape).Idx → EReal :=
  fun i => code I (hRow S I X W T (i 0)) (i 1)

section Congr
variable {S S' I I' : EReal → EReal} (hS : ∀ a, 0 ≤ a → S a = S' a) (hI : ∀ a, 0 ≤ a → I a = I' a)
include hS hI

/-- Equal choices on the non-negative numbers give equal hidden rows. -/
theorem hRow_congr (X W T) (r : Fin 1536) : hRow S I X W T r = hRow S' I' X W T r :=
  hid_congr hS hI _ _ _

/-- … equal second scales, … -/
theorem hScaleA_congr (X W T) : hScaleA S I X W T = hScaleA S' I' X W T :=
  funext fun i => (hS _ (rowMax_nonneg (by norm_num) _)).trans (congrArg (fun h => S' (rowMax h)) (hRow_congr hS hI X W T (i 0)))

/-- … equal second codes, … -/
theorem hCodeA_congr (X W T) : hCodeA S I X W T = hCodeA S' I' X W T :=
  funext fun i => (code_congr hI _ _).trans (congrArg (fun h => code I' h (i 1)) (hRow_congr hS hI X W T (i 0)))

omit hI in
/-- … equal first scales, … -/
theorem xScaleA_congr (X) : xScaleA S X = xScaleA S' X := funext fun _ => hS _ (rowMax_nonneg (by norm_num) _)

omit hS in
/-- … and equal first codes. -/
theorem xCodeA_congr (X) : xCodeA I X = xCodeA I' X := funext fun _ => code_congr hI _ _

end Congr

end Cert.Spec
-- ==== Proof.KernelArray.lean ====
/-
  What the kernel's four result arrays hold after the run: the arrays of `Cert.Spec` over the activations, the weights
  and their scales. The grid's six points write blocks of 256 rows, and a block's rows depend on those rows only.
-/
module

public import proofs.«01_k».proof.Proof.Gen.KernelIdeal.Value
public import Idealize.ShloMosaic.Lib.Pipeline.ValueKit
public import Idealize.ShloMosaic.Lib.Claim
public import proofs.«01_k».proof.Proof.KernelBlock
public import proofs.«01_k».proof.Proof.Arrays

@[expose] public section

noncomputable section

namespace Cert.KernelArray

open Cert.KernelIdeal Cert.KernelIdeal.Gen Cert.KernelBlock Idealize.ShloMosaic.TcCoe Idealize.ShloMosaic.ValueIdx Idealize.SL.Sem
open Idealize.ShloMosaic hiding ix2 eq_ix2 truncf_apply minimumf_apply maximumf_apply mulf_apply

variable (m : (ℓ : Loc nD τ sig) → Buf (Elt Ideal) ℓ)

/-- Point `t` stages block `t` of the activations. -/
theorem idx0 : ∀ t : Fin cfg0.N, win0_0.index t = ![t.val, 0] := (by decide +kernel : ∀ t : Fin grid0.N, _)
/-- Every point stages the whole of the weights. -/
theorem idx1 : ∀ t : Fin cfg0.N, win0_1.index t = ![0, 0] := (by decide +kernel : ∀ t : Fin grid0.N, _)
/-- Every point stages all the scales. -/
theorem idx2 : ∀ t : Fin cfg0.N, win0_2.index t = ![0, 0] := (by decide +kernel : ∀ t : Fin grid0.N, _)
/-- Point `t` writes block `t` of result 0. -/
theorem idx3 : ∀ t : Fin cfg0.N, win0_3.index t = ![t.val, 0] := (by decide +kernel : ∀ t : Fin grid0.N, _)
/-- Point `t` writes block `t` of result 1. -/
theorem idx4 : ∀ t : Fin cfg0.N, win0_4.index t = ![t.val, 0] := (by decide +kernel : ∀ t : Fin grid0.N, _)
/-- Point `t` writes block `t` of result 2. -/
theorem idx5 : ∀ t : Fin cfg0.N, win0_5.index t = ![t.val, 0] := (by decide +kernel : ∀ t : Fin grid0.N, _)
/-- Point `t` writes block `t` of result 3. -/
theorem idx6 : ∀ t : Fin cfg0.N, win0_6.index t = ![t.val, 0] := (by decide +kernel : ∀ t : Fin grid0.N, _)

/-- The weights' block is the weights. -/
theorem weights (c : Dev nD) (t : Fin cfg0.N) : iblk m c 1 t = V m c main_arg1 := by
  funext y
  blk_simp [iblk]
  refine congrArg (V m c main_arg1) ?_
  blk_ext [idx1]
/-- The scales' block is the scales. -/
theorem scales (c : Dev nD) (t : Fin cfg0.N) : iblk m c 2 t = V m c main_v1 := by
  funext y
  blk_simp [iblk]
  refine congrArg (V m c main_v1) ?_
  blk_ext [idx2]

/-- Row `r` of point `t`'s block, as a row of the whole array. -/
def rowAt (t : Fin cfg0.N) (r : Fin 256) : Fin 1536 :=
  ⟨t.val * 256 + r.val, by have h : t.val < cfg0.N := t.isLt; have : cfg0.N = 6 := N_0; omega⟩

/-- Row `r` of point `t`'s block of activations. -/
theorem row (c : Dev nD) (t : Fin cfg0.N) (r : Fin 256) : xrow (iblk m c 0 t) r = Spec.xRow (V m c main_v0) (rowAt t r) := by
  funext k
  show iblk m c 0 t (ix2 r k) = V m c main_v0 (ix2 (rowAt t r) k)
  blk_simp [iblk]
  refine congrArg (V m c main_v0) ?_
  blk_ext [idx0, rowAt]
/-- Where an index of point `t`'s block of result 0 lies in the whole array. -/
theorem emb3 (t : Fin cfg0.N) (y : S256x1.Idx) : (win0_3.blk t).view.emb y = ix2 (rowAt t (y 0)) (y 1) := by
  blk_ext [idx3, rowAt]
/-- Where an index of point `t`'s block of result 1 lies in the whole array. -/
theorem emb4 (t : Fin cfg0.N) (y : S256x1792.Idx) : (win0_4.blk t).view.emb y = ix2 (rowAt t (y 0)) (y 1) := by
  blk_ext [idx4, rowAt]
/-- Where an index of point `t`'s block of result 2 lies in the whole array. -/
theorem emb5 (t : Fin cfg0.N) (y : S256x3584.Idx) : (win0_5.blk t).view.emb y = ix2 (rowAt t (y 0)) (y 1) := by
  blk_ext [idx5, rowAt]
/-- Where an index of point `t`'s block of result 3 lies in the whole array. -/
theorem emb6 (t : Fin cfg0.N) (y : S256x1.Idx) : (win0_6.blk t).view.emb y = ix2 (rowAt t (y 0)) (y 1) := by
  blk_ext [idx6, rowAt]

/-- What point `t` leaves of the first scales. -/
theorem left6 (c : Dev nD) (t : Fin cfg0.N) : (outsAt0 m c t).2.2.2 = xScaleB (iblk m c 0 t) := by
  simp only [outsAt0]
  rw [out_xScale]

/-- The blocks of the first scales cover their array. -/
theorem covers6 : (cfg0.win 6).Covers := by decide +kernel

/-- The first scales after the run. -/
theorem final6 (c : Dev nD) : (dats m 0 c).arrAt 6 cfg0.N = Spec.xScaleA Scale.kScale (V m c main_v0) := by
  refine (dats m 0 c).arrAt_eq_of_covers 6 _ covers6 fun t hf y => ?_
  blk_simp
  rw [after0_6, left6]
  exact (congrArg (fun x => Scale.kScale (Spec.rowMax x)) (row m c t (y 0))).trans (congrArg (Spec.xScaleA Scale.kScale (V m c main_v0)) (emb6 t y)).symm

/-- What point `t` leaves of the first codes. -/
theorem left5 (c : Dev nD) (t : Fin cfg0.N) : (outsAt0 m c t).2.2.1 = xCodeB (iblk m c 0 t) := by
  simp only [outsAt0]
  rw [out_xCode]

/-- The blocks of the first codes cover their array. -/
theorem covers5 : (cfg0.win 5).Covers := by decide +kernel

/-- The first codes after the run. -/
theorem final5 (c : Dev nD) : (dats m 0 c).arrAt 5 cfg0.N = Spec.xCodeA Scale.kInv (V m c main_v0) := by
  refine (dats m 0 c).arrAt_eq_of_covers 5 _ covers5 fun t hf y => ?_
  blk_simp
  rw [after0_5, left5]
  exact (congrArg (fun x => Spec.code Scale.kInv x (y 1)) (row m c t (y 0))).trans (congrArg (Spec.xCodeA Scale.kInv (V m c main_v0)) (emb5 t y)).symm

/-- What point `t` leaves of the second scales. -/
theorem left3 (c : Dev nD) (t : Fin cfg0.N) : (outsAt0 m c t).1 = hScaleB (iblk m c 0 t) (V m c main_arg1) (V m c main_v1) := by
  simp only [outsAt0]
  rw [out_hScale, weights, scales]

/-- The blocks of the second scales cover their array. -/
theorem covers3 : (cfg0.win 3).Covers := by decide +kernel

/-- The second scales after the run. -/
theorem final3 (c : Dev nD) : (dats m 0 c).arrAt 3 cfg0.N = Spec.hScaleA Scale.kScale Scale.kInv (V m c main_v0) (V m c main_arg1) (V m c main_v1) := by
  refine (dats m 0 c).arrAt_eq_of_covers 3 _ covers3 fun t hf y => ?_
  blk_simp
  rw [after0_3, left3]
  exact (congrArg (fun x => Scale.kScale (Spec.rowMax (Spec.hid Scale.kScale Scale.kInv x (wmat (V m c main_arg1)) (wscale (V m c main_v1))))) (row m c t (y 0))).trans (congrArg (Spec.hScaleA Scale.kScale Scale.kInv (V m c main_v0) (V m c main_arg1) (V m c main_v1)) (emb3 t y)).symm

/-- What point `t` leaves of the second codes. -/
theorem left4 (c : Dev nD) (t : Fin cfg0.N) : (outsAt0 m c t).2.1 = hCodeB (iblk m c 0 t) (V m c main_arg1) (V m c main_v1) := by
  simp only [outsAt0]
  rw [out_hCode, weights, scales]

/-- The blocks of the second codes cover their array. -/
theorem covers4 : (cfg0.win 4).Covers := by decide +kernel

/-- The second codes after the run. -/
theorem final4 (c : Dev nD) : (dats m 0 c).arrAt 4 cfg0.N = Spec.hCodeA Scale.kScale Scale.kInv (V m c main_v0) (V m c main_arg1) (V m c main_v1) := by
  refine (dats m 0 c).arrAt_eq_of_covers 4 _ covers4 fun t hf y => ?_
  blk_simp
  rw [after0_4, left4]
  exact (congrArg (fun x => Spec.code Scale.kInv (Spec.hid Scale.kScale Scale.kInv x (wmat (V m c main_arg1)) (wscale (V m c main_v1))) (y 1)) (row m c t (y 0))).trans (congrArg (Spec.hCodeA Scale.kScale Scale.kInv (V m c main_v0) (V m c main_arg1) (V m c main_v1)) (emb4 t y)).symm

/-! ## What the host prepares -/

/-- The activations as the host flattens them: tokens by features. -/
theorem tokens (c : Dev nD) : V m c main_v0
    = shapeCast S1536x3584 (m ((c.tc : Thread nD τ).loc main_arg0) : S4x384x3584.Idx → EReal) shapeCasts_S4x384x3584_S1536x3584 := by
  unfold_abbrev_sides
  after_results
  rfl

/-- The weight scales as the host lays them out: one row. -/
theorem scaleRow (c : Dev nD) : V m c main_v1
    = shapeCast S1x3584 (m ((c.tc : Thread nD τ).loc main_arg2) : S3584.Idx → EReal) shapeCasts_S3584_S1x3584 := by
  unfold_abbrev_sides
  after_results
  rfl

end Cert.KernelArray
-- ==== Proof.ReferenceBlock.lean ====
/-
  What the reference's one block holds, as the arrays of `Cert.Spec` of its inputs. The reference has no grid: its block
  is the whole of every array.
-/
module

public import proofs.«01_k».proof.Proof.Gen.ReferenceIdeal.Frame
public import Idealize.ShloMosaic.Lib.Pipeline.ValueKit
public import proofs.«01_k».proof.Proof.Scale
public import proofs.«01_k».proof.Proof.Arrays

@[expose] public section

noncomputable section

namespace Cert.ReferenceBlock

open Cert.ReferenceIdeal Cert.ReferenceIdeal.Gen Idealize.ShloMosaic.ValueIdx Idealize.SL.Sem
open Idealize.ShloMosaic hiding ix2 eq_ix2 truncf_apply minimumf_apply maximumf_apply mulf_apply

variable (x : Vec Ideal S1536x3584 .bf16) (w : Vec Ideal S3584x3584 .fp8e4m3) (s : Vec Ideal S1x3584 .f32)

/-- The column of the greatest magnitudes of the activations' rows. -/
def xTop : FVec Ideal S1536x1 .f32 :=
  shapeCast S1536x1 (multiReduction .maximumf [1] S1536 (absf (k0_pay3 (F := Ideal) x)) 0xFF800000#32 reduces_S1536x3584_S1536 (.inl rfl) rfl) shapeCasts_S1536_S1536x1

/-- The column of the greatest magnitudes of the hidden rows. -/
def hTop (h : FVec Ideal S1536x1792 .f32) : FVec Ideal S1536x1 .f32 :=
  shapeCast S1536x1 (multiReduction .maximumf [1] S1536 (absf h) 0xFF800000#32 reduces_S1536x1792_S1536 (.inl rfl) rfl) shapeCasts_S1536_S1536x1

/-- The greatest magnitude of a row of the activations. -/
theorem xTop_apply (r : Fin 1536) : xTop x (ix2 r 0) = Spec.rowMax (Spec.xRow x r) := by
  unfold xTop
  refine (Spec.rowTop_apply _ _ _ _ _ r 0).trans ?_
  unfold k0_pay3
  rw [shapeCast_self]
  rfl

/-- The greatest magnitude of a hidden row. -/
theorem hTop_apply (h : FVec Ideal S1536x1792 .f32) (r : Fin 1536) : hTop h (ix2 r 0) = Spec.rowMax fun k => h (ix2 r k) :=
  Spec.rowTop_apply _ _ _ _ _ r 0

/-- The exponents of the scales, from a column of greatest magnitudes, as the reference prints them. -/
def expOf (t : FVec Ideal S1536x1 .f32) : FVec Ideal S1536x1 .f32 :=
  select (cmpf .oeq t (broadcast S1536x1 (Scalar.ofBits (F := Ideal) .f32 0x00000000#32)))
    (broadcast S1536x1 (Scalar.ofBits (F := Ideal) .f32 0x00000000#32))
    (select (ori (cmpf .olt (mulf t (broadcast S1536x1 (Scalar.ofBits (F := Ideal) .f32 0x3B124925#32))) (broadcast S1536x1 (Scalar.ofBits (F := Ideal) .f32 0x00800000#32)))
        (cmpf .oeq (mulf t (broadcast S1536x1 (Scalar.ofBits (F := Ideal) .f32 0x3B124925#32))) (broadcast S1536x1 (Scalar.ofBits (F := Ideal) .f32 0x7F800000#32))))
      (broadcast S1536x1 (Scalar.ofBits (F := Ideal) .f32 0x00000000#32))
      (minimumf (addf (floor (divf (log (mulf t (broadcast S1536x1 (Scalar.ofBits (F := Ideal) .f32 0x3B124925#32)))) (log (broadcast S1536x1 (Scalar.ofBits (F := Ideal) .f32 0x40000000#32)))))
          (broadcast S1536x1 (Scalar.ofBits (F := Ideal) .f32 0x3F800000#32)))
        (broadcast S1536x1 (Scalar.ofBits (F := Ideal) .f32 0x43000000#32))))

/-- The exponents are the rule `Scale.rExp`, row by row. -/
theorem expOf_eq (t : FVec Ideal S1536x1 .f32) : expOf t = fun i => Scale.rExp (t i) := rfl

/-- The exponents of the first scales. -/
theorem xExp_eq : k0_pay4 (F := Ideal) x = fun i => Scale.rExp (xTop x i) := by
  rw [← expOf_eq]
  unfold k0_pay4 expOf xTop
  rfl

/-- The exponents of the second scales. -/
theorem hExp_eq (v : FVec Ideal S1536x1 .f32) (q : FVec Ideal S1536x3584 .f32) (l : EReal) :
    k0_pay9 (F := Ideal) v q l w s = fun i => Scale.rExp (hTop (k0_pay8 (F := Ideal) v q l w s) i) := by
  rw [← expOf_eq]
  unfold k0_pay9 expOf hTop
  rfl

/-- A column of scales from one of exponents. -/
theorem scale_eq (t : FVec Ideal S1536x1 .f32) :
    select (cmpf .ogt (fun i => Scale.rExp (t i)) (broadcast S1536x1 (Scalar.ofBits (F := Ideal) .f32 0x42FE0000#32)))
      (broadcast S1536x1 (Scalar.ofBits (F := Ideal) .f32 0x7F800000#32)) (exp2 (φ := .f32) (F := Ideal) fun i => Scale.rExp (t i))
      = fun i => Scale.rScale (t i) := rfl

/-- A column of inverse scales from one of exponents. -/
theorem inv_eq (t : FVec Ideal S1536x1 .f32) :
    select (cmpf .ogt (fun i => Scale.rExp (t i)) (broadcast S1536x1 (Scalar.ofBits (F := Ideal) .f32 0x42FC0000#32)))
      (broadcast S1536x1 (Scalar.ofBits (F := Ideal) .f32 0x00000000#32))
      (exp2 (φ := .f32) (F := Ideal) (subf (broadcast S1536x1 (Scalar.ofBits (F := Ideal) .f32 0x00000000#32)) fun i => Scale.rExp (t i)))
      = fun i => Scale.rInv (t i) := rfl

/-- The first scales. -/
theorem xScale_eq : k0_pay5 (F := Ideal) x = fun i => Scale.rScale (xTop x i) := by
  rw [← scale_eq]
  unfold k0_pay5
  rw [xExp_eq]

/-- The activations over their scales. -/
theorem xOver_eq : k0_pay6 (F := Ideal) x
    = mulf (k0_pay3 (F := Ideal) x) (broadcastTo S1536x3584 (fun i => Scale.rInv (xTop x i)) broadcasts_S1536x1_S1536x3584) := by
  rw [← inv_eq]
  unfold k0_pay6
  rw [xExp_eq]

/-- The second scales. -/
theorem hScale_eq (t : FVec Ideal S1536x1 .f32) :
    k0_pay1 (F := Ideal) (fun i => Scale.rExp (t i)) (Scalar.ofBits .f32 0x42FE0000#32) = fun i => Scale.rScale (t i) := rfl

/-- The second codes. -/
theorem hCode_eq (h : FVec Ideal S1536x1792 .f32) (t : FVec Ideal S1536x1 .f32) :
    k0_pay2 (F := Ideal) h (fun i => Scale.rExp (t i))
      = truncf .fp8e4m3 (minimumf (broadcast S1536x1792 Spec.hi) (maximumf (broadcast S1536x1792 Spec.lo)
          (mulf h (broadcastTo S1536x1792 (fun i => Scale.rInv (t i)) broadcasts_S1536x1_S1536x1792)))) bitsLt_fp8e4m3_f32 := rfl

/-- The first scales, as an array. -/
theorem xScale_spec : k0_pay5 (F := Ideal) x = Spec.xScaleA Scale.rScale x := by
  rw [xScale_eq]
  funext y
  obtain ⟨r, z, rfl⟩ : ∃ r z, y = ix2 r z := ⟨_, _, eq_ix2 y⟩
  obtain rfl : z = 0 := Subsingleton.elim _ _
  exact congrArg Scale.rScale (xTop_apply x r)

/-- The first codes, as an array. -/
theorem xCode_spec : k0_pay7 (F := Ideal) (k0_pay6 (F := Ideal) x) (Scalar.ofBits .f32 0xC3E00000#32) = Spec.xCodeA Scale.rInv x := by
  rw [xOver_eq]
  funext y
  obtain ⟨r, k, rfl⟩ : ∃ r k, y = ix2 r k := ⟨_, _, eq_ix2 y⟩
  unfold k0_pay7
  rw [truncf_apply, minimumf_apply, maximumf_apply, mulf_apply, Spec.column_apply, xTop_apply]
  unfold k0_pay3
  rw [shapeCast_self]
  rfl

/-- The product of codes and weights, at an index. -/
theorem dot_apply (q : FVec Ideal S1536x3584 .fp8e4m3) (w : FVec Ideal S3584x3584 .fp8e4m3) (r : Fin 1536) (c : Fin 3584) :
    matmul dot_S1536x3584_S3584x3584_S1536x3584_1_0_0_1_n_n none q w (constant S1536x3584 .f32 0x00000000#32) (ix2 r c)
      = ∑ k : Fin 3584, q (ix2 r k) * w (ix2 k c) := by
  refine (Ideal.matmul_plain_apply (M := 1536) (K := 3584) (N := 3584) none q w _ r c).trans ?_
  rw [constant_apply, Ideal.ofBits_zero_f32, zero_add]

/-- The hidden values, at an index. -/
theorem hid_apply (r : Fin 1536) (j : Fin 1792) :
    k0_pay8 (F := Ideal) (k0_pay5 (F := Ideal) x) (k0_pay6 (F := Ideal) x) (Scalar.ofBits .f32 0xC3E00000#32) w s (ix2 r j)
      = Spec.hRow Scale.rScale Scale.rInv x w s r j := by
  unfold k0_pay8
  rw [xCode_spec, xScale_spec]
  have e : ∀ v : FVec Ideal S1536x1792 .f32, logistic v (ix2 r j) = FloatOps.logistic (F := Ideal) (φ := .f32) (v (ix2 r j)) := fun _ => rfl
  have p : ∀ n : Fin 3584, mulf (F := Ideal) (φ := .f32) (mulf (F := Ideal) (φ := .f32) (matmul (φ₁ := .fp8e4m3) (φ₂ := .fp8e4m3) dot_S1536x3584_S3584x3584_S1536x3584_1_0_0_1_n_n none (Spec.xCodeA Scale.rInv x : FVec Ideal S1536x3584 .fp8e4m3) w (constant S1536x3584 .f32 0x00000000#32))
      (broadcastTo S1536x3584 (Spec.xScaleA Scale.rScale x : FVec Ideal S1536x1 .f32) broadcasts_S1536x1_S1536x3584))
      (broadcastTo S1536x3584 (shapeCast S1x3584 s shapeCasts_S1x3584_S1x3584) broadcasts_S1x3584_S1536x3584) (ix2 r n)
      = Spec.prod Scale.rScale Scale.rInv (Spec.xRow x r) (fun k n => w (ix2 k n)) (fun n => s (ix2 0 n)) n := by
    intro n
    rw [mulf_apply, mulf_apply, dot_apply, Spec.column_apply, Spec.row_apply, shapeCast_self]
    rfl
  have hj := j.isLt
  rw [mulf_apply, mulf_apply, e, slice2_axis1_apply 0 _ _ r j ⟨j.val, by omega⟩ (by show j.val = 0 + j.val; omega),
    slice2_axis1_apply 1792 _ _ r j ⟨j.val + 1792, by omega⟩ (by show j.val + 1792 = 1792 + j.val; omega), p, p]
  rfl

/-- The second scales, as an array. -/
theorem hScale_spec :
    k0_pay1 (F := Ideal) (k0_pay9 (F := Ideal) (k0_pay5 (F := Ideal) x) (k0_pay6 (F := Ideal) x) (Scalar.ofBits .f32 0xC3E00000#32) w s) (Scalar.ofBits .f32 0x42FE0000#32)
      = Spec.hScaleA Scale.rScale Scale.rInv x w s := by
  rw [hExp_eq, hScale_eq]
  funext y
  obtain ⟨r, z, rfl⟩ : ∃ r z, y = ix2 r z := ⟨_, _, eq_ix2 y⟩
  obtain rfl : z = 0 := Subsingleton.elim _ _
  show Scale.rScale (hTop _ (ix2 r 0)) = _
  rw [hTop_apply]
  exact congrArg (fun h => Scale.rScale (Spec.rowMax h)) (funext fun j => hid_apply x w s r j)

/-- The second codes, as an array. -/
theorem hCode_spec :
    k0_pay2 (F := Ideal) (k0_pay8 (F := Ideal) (k0_pay5 (F := Ideal) x) (k0_pay6 (F := Ideal) x) (Scalar.ofBits .f32 0xC3E00000#32) w s)
        (k0_pay9 (F := Ideal) (k0_pay5 (F := Ideal) x) (k0_pay6 (F := Ideal) x) (Scalar.ofBits .f32 0xC3E00000#32) w s)
      = Spec.hCodeA Scale.rScale Scale.rInv x w s := by
  rw [hExp_eq, hCode_eq]
  funext y
  obtain ⟨r, k, rfl⟩ : ∃ r k, y = ix2 r k := ⟨_, _, eq_ix2 y⟩
  rw [truncf_apply, minimumf_apply, maximumf_apply, mulf_apply, Spec.column_apply, hTop_apply]
  exact congrArg (fun h => Spec.code Scale.rInv h k) (funext fun j => hid_apply x w s r j)

/-! ## The block's four results

Every load and every store is of a whole buffer. -/

/-- The offsets of a whole buffer. -/
theorem zeros : (![0, 0] : Fin 2 → ℕ) = fun _ => 0 := by
  funext a
  fin_cases a <;> rfl

/-- The loaded activations are the buffer. -/
theorem ld_x : View.ld x r0_0 = x := View.ld_unit_zero zeros _ x
/-- The loaded weights are the buffer. -/
theorem ld_w : View.ld w r0_1 = w := View.ld_unit_zero zeros _ w
/-- The loaded weight scales are the buffer. -/
theorem ld_s : View.ld s r0_2 = s := View.ld_unit_zero zeros _ s

/-- The scales of the loaded activations. -/
theorem pay10 : k0_pay10 (F := Ideal) x w s = k0_pay5 (F := Ideal) x := by
  unfold k0_pay10
  rw [ld_x]
/-- The loaded activations over their scales. -/
theorem pay11 : k0_pay11 (F := Ideal) x w s = k0_pay6 (F := Ideal) x := by
  unfold k0_pay11
  rw [ld_x]
/-- The exponents of the second scales, of the loaded values. -/
theorem pay12 : k0_pay12 (F := Ideal) x w s
    = k0_pay9 (F := Ideal) (k0_pay5 (F := Ideal) x) (k0_pay6 (F := Ideal) x) (Scalar.ofBits .f32 0xC3E00000#32) w s := by
  unfold k0_pay12
  rw [pay10, pay11, ld_w, ld_s]

/-- The block of the first scales. -/
theorem out_xScale : out0_6 (F := Ideal) x w s = Spec.xScaleA Scale.rScale x := by
  unfold out0_6
  rw [pay10]
  exact (View.canon_unit_zero zeros _ _).trans (xScale_spec x)

/-- The block of the first codes. -/
theorem out_xCode : out0_5 (F := Ideal) x w s = Spec.xCodeA Scale.rInv x := by
  unfold out0_5
  rw [pay11]
  exact (View.canon_unit_zero zeros _ _).trans (xCode_spec x)

/-- The block of the second scales. -/
theorem out_hScale : out0_3 (F := Ideal) x w s = Spec.hScaleA Scale.rScale Scale.rInv x w s := by
  unfold out0_3
  rw [pay12]
  exact (View.canon_unit_zero zeros _ _).trans (hScale_spec x w s)

/-- The block of the second codes. -/
theorem out_hCode : out0_4 (F := Ideal) x w s = Spec.hCodeA Scale.rScale Scale.rInv x w s := by
  unfold out0_4
  rw [pay12, pay10, pay11, ld_w, ld_s]
  exact (View.canon_unit_zero zeros _ _).trans (hCode_spec x w s)

end Cert.ReferenceBlock
-- ==== Proof.ReferenceArray.lean ====
/-
  What the reference's four result arrays hold after the run: the arrays of `Cert.Spec` over the activations, the weights
  and their scales. The reference is one point whose blocks are the whole arrays.
-/
module

public import proofs.«01_k».proof.Proof.Gen.ReferenceIdeal.Frame
public import Idealize.ShloMosaic.Lib.Pipeline.ValueKit
public import Idealize.ShloMosaic.Lib.Claim
public import proofs.«01_k».proof.Proof.ReferenceBlock
public import proofs.«01_k».proof.Proof.Arrays

@[expose] public section

noncomputable section

namespace Cert.ReferenceArray

open Cert.ReferenceIdeal Cert.ReferenceIdeal.Gen Cert.ReferenceBlock Idealize.ShloMosaic.TcCoe Idealize.ShloMosaic.ValueIdx Idealize.SL.Sem
open Idealize.ShloMosaic hiding ix2 eq_ix2 truncf_apply minimumf_apply maximumf_apply mulf_apply

variable (m : (ℓ : Loc nD τ sig) → Buf (Elt Ideal) ℓ)

/-! ## The run -/

/-- After the run, the activations are as launched: nothing stages them and the run leaves other buffers as they were. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run, the weights are as launched: they are staged and never written back. -/
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the run, the weight scales are as launched. -/
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run leaves each result as its window's array after the last point, and the arguments unchanged. -/
theorem run_blocks (ρ) : θ_run defs (onTc (τ := τ) (main (F := Ideal))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_v2_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5, (h c).1 6, kept0 m r h c, kept1 m r h c, kept2 m r h c⟩)
    (run_main m ρ)

/-! ## The blocks -/

/-- The one block of the activations is the first. -/
theorem idx0 : ∀ t : Fin cfg0.N, win0_0.index t = ![0, 0] := (by decide +kernel : ∀ t : Fin grid0.N, _)
/-- The one block of the weights is the first. -/
theorem idx1 : ∀ t : Fin cfg0.N, win0_1.index t = ![0, 0] := (by decide +kernel : ∀ t : Fin grid0.N, _)
/-- The one block of the weight scales is the first. -/
theorem idx2 : ∀ t : Fin cfg0.N, win0_2.index t = ![0, 0] := (by decide +kernel : ∀ t : Fin grid0.N, _)
/-- The one block of the second scales is the first. -/
theorem idx3 : ∀ t : Fin cfg0.N, win0_3.index t = ![0, 0] := (by decide +kernel : ∀ t : Fin grid0.N, _)
/-- The one block of the second codes is the first. -/
theorem idx4 : ∀ t : Fin cfg0.N, win0_4.index t = ![0, 0] := (by decide +kernel : ∀ t : Fin grid0.N, _)
/-- The one block of the first codes is the first. -/
theorem idx5 : ∀ t : Fin cfg0.N, win0_5.index t = ![0, 0] := (by decide +kernel : ∀ t : Fin grid0.N, _)
/-- The one block of the first scales is the first. -/
theorem idx6 : ∀ t : Fin cfg0.N, win0_6.index t = ![0, 0] := (by decide +kernel : ∀ t : Fin grid0.N, _)

/-- The block of the activations is the whole of them. -/
theorem staged0 (c : Dev nD) (t : Fin cfg0.N) : iblk m c 0 t = V m c main_v0 := by
  funext y
  blk_simp [iblk]
  refine congrArg (V m c main_v0) ?_
  blk_ext [idx0]

/-- The block of the weights is the whole of them. -/
theorem staged1 (c : Dev nD) (t : Fin cfg0.N) : iblk m c 1 t = V m c main_arg1 := by
  funext y
  blk_simp [iblk]
  refine congrArg (V m c main_arg1) ?_
  blk_ext [idx1]

/-- The block of the weight scales is the whole of them. -/
theorem staged2 (c : Dev nD) (t : Fin cfg0.N) : iblk m c 2 t = V m c main_v1 := by
  funext y
  blk_simp [iblk]
  refine congrArg (V m c main_v1) ?_
  blk_ext [idx2]

/-- An index of the block of the first scales is that index of the array. -/
theorem emb6 (t : Fin cfg0.N) (y : S1536x1.Idx) : (win0_6.blk t).view.emb y = y := by
  blk_ext [idx6]

/-- The block of the first scales covers its array. -/
theorem covers6 : (cfg0.win 6).Covers := by decide +kernel

/-- The first scales after the run. -/
theorem final6 (c : Dev nD) : (dats m 0 c).arrAt 6 cfg0.N = Spec.xScaleA Scale.rScale (V m c main_v0) := by
  refine (dats m 0 c).arrAt_eq_of_covers 6 _ covers6 fun t hf y => ?_
  blk_simp
  rw [after0_6, out_xScale, staged0]
  exact (congrArg (Spec.xScaleA Scale.rScale (V m c main_v0)) (emb6 t y)).symm

/-- An index of the block of the first codes is that index of the array. -/
theorem emb5 (t : Fin cfg0.N) (y : S1536x3584.Idx) : (win0_5.blk t).view.emb y = y := by
  blk_ext [idx5]

/-- The block of the first codes covers its array. -/
theorem covers5 : (cfg0.win 5).Covers := by decide +kernel

/-- The first codes after the run. -/
theorem final5 (c : Dev nD) : (dats m 0 c).arrAt 5 cfg0.N = Spec.xCodeA Scale.rInv (V m c main_v0) := by
  refine (dats m 0 c).arrAt_eq_of_covers 5 _ covers5 fun t hf y => ?_
  blk_simp
  rw [after0_5, out_xCode, staged0]
  exact (congrArg (Spec.xCodeA Scale.rInv (V m c main_v0)) (emb5 t y)).symm

/-- An index of the block of the second scales is that index of the array. -/
theorem emb3 (t : Fin cfg0.N) (y : S1536x1.Idx) : (win0_3.blk t).view.emb y = y := by
  blk_ext [idx3]

/-- The block of the second scales covers its array. -/
theorem covers3 : (cfg0.win 3).Covers := by decide +kernel

/-- The second scales after the run. -/
theorem final3 (c : Dev nD) : (dats m 0 c).arrAt 3 cfg0.N = Spec.hScaleA Scale.rScale Scale.rInv (V m c main_v0) (V m c main_arg1) (V m c main_v1) := by
  refine (dats m 0 c).arrAt_eq_of_covers 3 _ covers3 fun t hf y => ?_
  blk_simp
  rw [after0_3, out_hScale, staged0, staged1, staged2]
  exact (congrArg (Spec.hScaleA Scale.rScale Scale.rInv (V m c main_v0) (V m c main_arg1) (V m c main_v1)) (emb3 t y)).symm

/-- An index of the block of the second codes is that index of the array. -/
theorem emb4 (t : Fin cfg0.N) (y : S1536x1792.Idx) : (win0_4.blk t).view.emb y = y := by
  blk_ext [idx4]

/-- The block of the second codes covers its array. -/
theorem covers4 : (cfg0.win 4).Covers := by decide +kernel

/-- The second codes after the run. -/
theorem final4 (c : Dev nD) : (dats m 0 c).arrAt 4 cfg0.N = Spec.hCodeA Scale.rScale Scale.rInv (V m c main_v0) (V m c main_arg1) (V m c main_v1) := by
  refine (dats m 0 c).arrAt_eq_of_covers 4 _ covers4 fun t hf y => ?_
  blk_simp
  rw [after0_4, out_hCode, staged0, staged1, staged2]
  exact (congrArg (Spec.hCodeA Scale.rScale Scale.rInv (V m c main_v0) (V m c main_arg1) (V m c main_v1)) (emb4 t y)).symm

/-! ## What the host prepares -/

/-- The activations as the host flattens them: tokens by features. -/
theorem tokens (c : Dev nD) : V m c main_v0
    = shapeCast S1536x3584 (m ((c.tc : Thread nD τ).loc main_arg0) : S4x384x3584.Idx → EReal) shapeCasts_S4x384x3584_S1536x3584 := by
  unfold_abbrev_sides
  after_results
  rfl

/-- The weight scales as the host lays them out: one row. -/
theorem scaleRow (c : Dev nD) : V m c main_v1
    = shapeCast S1x3584 (m ((c.tc : Thread nD τ).loc main_arg2) : S3584.Idx → EReal) shapeCasts_S3584_S1x3584 := by
  unfold_abbrev_sides
  after_results
  rfl

end Cert.ReferenceArray
-- ==== Proof.Equation.lean ====
/-
  The kernel and the reference leave the same four arrays, as extended reals, from equal arguments: both sides are the
  arrays of `Cert.Spec`, the kernel's at the kernel's scale rule and the reference's at the reference's, and the two rules
  agree on every magnitude (`Scale.kScale_eq`, `Scale.kInv_eq`).
-/
module

public import proofs.«01_k».proof.Defs
public import proofs.«01_k».proof.Proof.KernelArray
public import proofs.«01_k».proof.Proof.ReferenceArray

@[expose] public section

noncomputable section

namespace Cert.Equation

open Idealize.ShloMosaic Idealize.SL.Sem

/-- The memories of the kernel. -/
abbrev MemK : Type := (ℓ : Loc Cert.KernelIdeal.nD Cert.KernelIdeal.τ Cert.KernelIdeal.sig) → Buf (Elt Ideal) ℓ
/-- The memories of the reference. -/
abbrev MemR : Type := (ℓ : Loc Cert.ReferenceIdeal.nD Cert.ReferenceIdeal.τ Cert.ReferenceIdeal.sig) → Buf (Elt Ideal) ℓ

variable (m : MemK) (m' : MemR) (c : Dev Cert.KernelIdeal.nD)

/-- The flattened activations agree. -/
theorem tokens (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) : Cert.ReferenceIdeal.Gen.V m' c Cert.ReferenceIdeal.main_v0 = Cert.KernelIdeal.Gen.V m c Cert.KernelIdeal.main_v0 :=
  (ReferenceArray.tokens m' c).trans ((congrArg (fun v => shapeCast Cert.KernelIdeal.S1536x3584 v Cert.KernelIdeal.Facts₀.shapeCasts_S4x384x3584_S1536x3584) h0).trans (KernelArray.tokens m c).symm)

/-- The weights agree. -/
theorem weights (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : Cert.ReferenceIdeal.Gen.V m' c Cert.ReferenceIdeal.main_arg1 = Cert.KernelIdeal.Gen.V m c Cert.KernelIdeal.main_arg1 :=
  (Cert.ReferenceIdeal.Gen.V_main_arg1 m' c).trans (h1.trans (Cert.KernelIdeal.Gen.V_main_arg1 m c).symm)

/-- The rows of weight scales agree. -/
theorem scaleRow (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : Cert.ReferenceIdeal.Gen.V m' c Cert.ReferenceIdeal.main_v1 = Cert.KernelIdeal.Gen.V m c Cert.KernelIdeal.main_v1 :=
  (ReferenceArray.scaleRow m' c).trans ((congrArg (fun v => shapeCast Cert.KernelIdeal.S1x3584 v Cert.KernelIdeal.Facts₀.shapeCasts_S3584_S1x3584) h2).trans (KernelArray.scaleRow m c).symm)

/-- The first scales agree. -/
theorem xScales
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Gen.dats m' 0 c).arrAt 6 Cert.ReferenceIdeal.cfg0.N = (Cert.KernelIdeal.Gen.dats m 0 c).arrAt 6 Cert.KernelIdeal.cfg0.N := by
  refine (ReferenceArray.final6 m' c).trans (Eq.trans ?_ (KernelArray.final6 m c).symm)
  rw [tokens m m' c h0]
  exact (Spec.xScaleA_congr (fun a ha => Scale.kScale_eq ha) _).symm

/-- The first codes agree. -/
theorem xCodes
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Gen.dats m' 0 c).arrAt 5 Cert.ReferenceIdeal.cfg0.N = (Cert.KernelIdeal.Gen.dats m 0 c).arrAt 5 Cert.KernelIdeal.cfg0.N := by
  refine (ReferenceArray.final5 m' c).trans (Eq.trans ?_ (KernelArray.final5 m c).symm)
  rw [tokens m m' c h0]
  exact (Spec.xCodeA_congr (fun a ha => Scale.kInv_eq ha) _).symm

/-- The second scales agree. -/
theorem hScales
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Gen.dats m' 0 c).arrAt 3 Cert.ReferenceIdeal.cfg0.N = (Cert.KernelIdeal.Gen.dats m 0 c).arrAt 3 Cert.KernelIdeal.cfg0.N := by
  refine (ReferenceArray.final3 m' c).trans (Eq.trans ?_ (KernelArray.final3 m c).symm)
  rw [tokens m m' c h0, weights m m' c h1, scaleRow m m' c h2]
  exact (Spec.hScaleA_congr (fun a ha => Scale.kScale_eq ha) (fun a ha => Scale.kInv_eq ha) _ _ _).symm

/-- The second codes agree. -/
theorem hCodes
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Gen.dats m' 0 c).arrAt 4 Cert.ReferenceIdeal.cfg0.N = (Cert.KernelIdeal.Gen.dats m 0 c).arrAt 4 Cert.KernelIdeal.cfg0.N := by
  refine (ReferenceArray.final4 m' c).trans (Eq.trans ?_ (KernelArray.final4 m c).symm)
  rw [tokens m m' c h0, weights m m' c h1, scaleRow m m' c h2]
  exact (Spec.hCodeA_congr (fun a ha => Scale.kScale_eq ha) (fun a ha => Scale.kInv_eq ha) _ _ _).symm

end Cert.Equation
-- ==== Proof.lean ====
module

public import proofs.«01_k».proof.Defs
public import proofs.«01_k».proof.Proof.Gen.KernelIdeal.Value
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The idealized kernel and reference end with the same results from the same arguments. -/
theorem algebraic : algebraic_KernelIdeal_ReferenceIdeal (hKernelIdeal := Cert.KernelIdeal.Gen.facts) (hReferenceIdeal := Cert.ReferenceIdeal.Gen.facts) := by
  intro m g m' g' _ h
  refine ⟨fun c => (Cert.KernelIdeal.Gen.dats m 0 c).arrAt 3 Cert.KernelIdeal.cfg0.N, fun c => (Cert.KernelIdeal.Gen.dats m 0 c).arrAt 4 Cert.KernelIdeal.cfg0.N,
    fun c => (Cert.KernelIdeal.Gen.dats m 0 c).arrAt 5 Cert.KernelIdeal.cfg0.N, fun c => (Cert.KernelIdeal.Gen.dats m 0 c).arrAt 6 Cert.KernelIdeal.cfg0.N,
    Cert.KernelIdeal.Value.run_blocks m g, ?_⟩
  refine (θ_run _ _ _).mono (fun r hr c => ?_) (ReferenceArray.run_blocks m' g')
  obtain ⟨r3, r4, r5, r6, k0, k1, k2⟩ := hr c
  obtain ⟨h0, h1, h2⟩ := h c
  exact ⟨r3.trans (Equation.hScales m m' c h0 h1 h2), r4.trans (Equation.hCodes m m' c h0 h1 h2),
    r5.trans (Equation.xCodes m m' c h0), r6.trans (Equation.xScales m m' c h0), k0, k1, k2⟩

/-- Every claim of the certificate. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Gen.frame m g, trivial, algebraic⟩

end Cert.Proof

end
